-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![1536, 1536]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![768, 1536]⟩ ⟨2, ![1536, 1536]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S8x96x1536 : Shape := ⟨3, ![8, 96, 1536]⟩
abbrev S8 : Shape := ⟨1, ![8]⟩
abbrev S16 : Shape := ⟨1, ![16]⟩
abbrev S_ : Shape := ⟨0, ![]⟩
abbrev S96x768 : Shape := ⟨2, ![96, 768]⟩
abbrev S96x1536 : Shape := ⟨2, ![96, 1536]⟩
abbrev S1x96x1536 : Shape := ⟨3, ![1, 96, 1536]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S8x96x1536, .bf16⟩
  | .local _ .vmem, ⟨3, _⟩ => ⟨S8x96x1536, .bf16⟩
  | .local _ .vmem, ⟨4, _⟩ => ⟨S8x96x1536, .bf16⟩
  | .local _ .vmem, ⟨5, _⟩ => ⟨S8x96x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c768_i32 : BitVec 32 := 768#32
  let v19 : BitVec 32 := Scalar.muli v5 c768_i32
  let v20 : BitVec 32 := Scalar.addi v19 c0_i32_12
  let v21 : Index := Scalar.indexCast v20
  let c0_13 : Index := 0#32
  ![v21.toNat, 0]
def k0_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v29 : BitVec 32 := Scalar.muli v6 c2_i32_22
  let v30 : BitVec 32 := Scalar.addi c0_i32_23 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v31 : BitVec 32 := Scalar.muli v5 c1_i32_24
  let v32 : BitVec 32 := Scalar.addi v30 v31
  v32.toNat
def k0_dev4 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v51 : BitVec 32 := Scalar.muli v6 c2_i32_38
  let v52 : BitVec 32 := Scalar.addi c0_i32_39 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v53 : BitVec 32 := Scalar.muli v5 c1_i32_40
  let v54 : BitVec 32 := Scalar.addi v52 v53
  v54.toNat
def k0_dev5 (d0 : Dev nD) : Nat :=
  let c0_i32_55 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_54 : BitVec 32 := 2#32
  let v73 : BitVec 32 := Scalar.muli v6 c2_i32_54
  let v74 : BitVec 32 := Scalar.addi c0_i32_55 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v75 : BitVec 32 := Scalar.muli v5 c1_i32_56
  let v76 : BitVec 32 := Scalar.addi v74 v75
  v76.toNat
def k0_dev6 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v95 : BitVec 32 := Scalar.muli v6 c2_i32_69
  let v96 : BitVec 32 := Scalar.addi c0_i32_70 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v97 : BitVec 32 := Scalar.muli v5 c1_i32_71
  let v98 : BitVec 32 := Scalar.addi v96 v97
  v98.toNat
def k0_dev7 (d0 : Dev nD) : Nat :=
  let c0_i32_85 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_84 : BitVec 32 := 2#32
  let v117 : BitVec 32 := Scalar.muli v6 c2_i32_84
  let v118 : BitVec 32 := Scalar.addi c0_i32_85 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_86 : BitVec 32 := 1#32
  let v119 : BitVec 32 := Scalar.muli v5 c1_i32_86
  let v120 : BitVec 32 := Scalar.addi v118 v119
  v120.toNat
def k0_dev8 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v139 : BitVec 32 := Scalar.muli v6 c2_i32_99
  let v140 : BitVec 32 := Scalar.addi c0_i32_100 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v141 : BitVec 32 := Scalar.muli v5 c1_i32_101
  let v142 : BitVec 32 := Scalar.addi v140 v141
  v142.toNat
def k0_dev9 (d0 : Dev nD) : Nat :=
  let c0_i32_115 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_114 : BitVec 32 := 2#32
  let v161 : BitVec 32 := Scalar.muli v6 c2_i32_114
  let v162 : BitVec 32 := Scalar.addi c0_i32_115 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v163 : BitVec 32 := Scalar.muli v5 c1_i32_116
  let v164 : BitVec 32 := Scalar.addi v162 v163
  v164.toNat
def k0_dev10 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v183 : BitVec 32 := Scalar.muli v6 c2_i32_129
  let v184 : BitVec 32 := Scalar.addi c0_i32_130 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v185 : BitVec 32 := Scalar.muli v5 c1_i32_131
  let v186 : BitVec 32 := Scalar.addi v184 v185
  v186.toNat
def k0_dev11 (d0 : Dev nD) : Nat :=
  let c0_i32_158 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_157 : BitVec 32 := 2#32
  let v213 : BitVec 32 := Scalar.muli v2 c2_i32_157
  let v214 : BitVec 32 := Scalar.addi c0_i32_158 v213
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_159 : BitVec 32 := 1#32
  let v215 : BitVec 32 := Scalar.muli v7 c1_i32_159
  let v216 : BitVec 32 := Scalar.addi v214 v215
  v216.toNat
def k0_off2 (d0 : Dev nD) (c0_i32_165 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c768_i32_164 : BitVec 32 := 768#32
  let v225 : BitVec 32 := Scalar.muli v5 c768_i32_164
  let v226 : BitVec 32 := Scalar.addi v225 c0_i32_165
  let c0_i32_168 : BitVec 32 := 0#32
  ![v226.toNat, 0]
def k0_dev12 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v250 : BitVec 32 := Scalar.muli v2 c2_i32_192
  let v251 : BitVec 32 := Scalar.addi c0_i32_193 v250
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v252 : BitVec 32 := Scalar.muli v7 c1_i32_194
  let v253 : BitVec 32 := Scalar.addi v251 v252
  v253.toNat
def k0_dev13 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v287 : BitVec 32 := Scalar.muli v2 c2_i32_227
  let v288 : BitVec 32 := Scalar.addi c0_i32_228 v287
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_229 : BitVec 32 := 1#32
  let v289 : BitVec 32 := Scalar.muli v7 c1_i32_229
  let v290 : BitVec 32 := Scalar.addi v288 v289
  v290.toNat
def k0_dev14 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v324 : BitVec 32 := Scalar.muli v2 c2_i32_262
  let v325 : BitVec 32 := Scalar.addi c0_i32_263 v324
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_264 : BitVec 32 := 1#32
  let v326 : BitVec 32 := Scalar.muli v7 c1_i32_264
  let v327 : BitVec 32 := Scalar.addi v325 v326
  v327.toNat
def k0_dev15 (d0 : Dev nD) : Nat :=
  let c0_i32_298 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_297 : BitVec 32 := 2#32
  let v361 : BitVec 32 := Scalar.muli v2 c2_i32_297
  let v362 : BitVec 32 := Scalar.addi c0_i32_298 v361
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_299 : BitVec 32 := 1#32
  let v363 : BitVec 32 := Scalar.muli v7 c1_i32_299
  let v364 : BitVec 32 := Scalar.addi v362 v363
  v364.toNat
def k0_dev16 (d0 : Dev nD) : Nat :=
  let c0_i32_333 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_332 : BitVec 32 := 2#32
  let v398 : BitVec 32 := Scalar.muli v2 c2_i32_332
  let v399 : BitVec 32 := Scalar.addi c0_i32_333 v398
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_334 : BitVec 32 := 1#32
  let v400 : BitVec 32 := Scalar.muli v7 c1_i32_334
  let v401 : BitVec 32 := Scalar.addi v399 v400
  v401.toNat
def k0_dev17 (d0 : Dev nD) : Nat :=
  let c0_i32_368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_367 : BitVec 32 := 2#32
  let v435 : BitVec 32 := Scalar.muli v2 c2_i32_367
  let v436 : BitVec 32 := Scalar.addi c0_i32_368 v435
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_369 : BitVec 32 := 1#32
  let v437 : BitVec 32 := Scalar.muli v7 c1_i32_369
  let v438 : BitVec 32 := Scalar.addi v436 v437
  v438.toNat
def k0_dev18 (d0 : Dev nD) : Nat :=
  let c0_i32_403 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_402 : BitVec 32 := 2#32
  let v472 : BitVec 32 := Scalar.muli v2 c2_i32_402
  let v473 : BitVec 32 := Scalar.addi c0_i32_403 v472
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_404 : BitVec 32 := 1#32
  let v474 : BitVec 32 := Scalar.muli v7 c1_i32_404
  let v475 : BitVec 32 := Scalar.addi v473 v474
  v475.toNat
def k0_off3 (d0 : Dev nD) (c0_i32_429 : BitVec 32) : Fin 2 → Nat :=
  let c1_i32_427 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v501 : BitVec 32 := Scalar.subi c1_i32_427 v5
  let c768_i32_428 : BitVec 32 := 768#32
  let v502 : BitVec 32 := Scalar.muli v501 c768_i32_428
  let v503 : BitVec 32 := Scalar.addi v502 c0_i32_429
  let c0_i32_431 : BitVec 32 := 0#32
  ![v503.toNat, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1536x1536 : Shape := ⟨2, ![1536, 1536]⟩

abbrev nBuf : Space → Nat
  | .hbm => 4
  | .vmem => 0
  | .smem => 0
  | _ => 0

abbrev bufTy : (tb : Table) → Fin (tcTables nBuf tb) → BufTy
  | .hbm, ⟨0, _⟩ => ⟨S1536x1536, .bf16⟩
  | .hbm, ⟨1, _⟩ => ⟨S1536x1536, .bf16⟩
  | .hbm, ⟨2, _⟩ => ⟨S1536x1536, .f32⟩
  | .hbm, ⟨3, _⟩ => ⟨S1536x1536, .bf16⟩
  | _, _ => ⟨S1536x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Kernel.Result.lean ====
module

public import proofs.«01_k».proof.Proof.Kernel.Launch

/-!
# What the program ends with

The run, read at the two arguments, at the result and at the semaphores.
-/

@[expose] public section

noncomputable section

namespace Cert.Kernel.Mesh

open Cert.Kernel Cert.Kernel.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Every execution ends, with each device's result holding the sums of both neighbours, its arguments as they were,
and every semaphore at zero. -/
theorem run_kept : θ_run defs (onTc (τ := τ) (main (F := F))) ⟨m, fun _ => 0, ρ⟩ (fun r =>
    (∀ c : Dev nD, IsResult m ρ c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c).2, ((h.1 c).1 (0 : Fin 2)).trans (arg_a m ρ c),
    ((h.1 c).1 (1 : Fin 2)).trans (arg_b m ρ c)⟩, h.2⟩) (run_main m ρ)

end Cert.Kernel.Mesh

end

end
-- ==== Proof.KernelIdeal.Program.lean ====
module

public import proofs.«01_k».proof.Proof.Gen.KernelIdeal
public import proofs.«01_k».proof.Proof.Gen.KernelIdeal.Skeleton
public import proofs.«01_k».proof.Proof.Gen.KernelIdeal.Launch

/-!
# The kernel's program by chunks

The kernel handles its 768 rows in eight chunks of 96 rows.  Here each thing it does to a chunk is one
small program with the chunk's number as a parameter, the whole program runs them over the list of the
chunks, and `body_eq` says that this is the printed program.
-/

@[expose] public section

set_option maxRecDepth 16384

noncomputable section

namespace Cert.KernelIdeal.Mesh

open Cert.KernelIdeal Cert.KernelIdeal.Gen
open Idealize.ShloMosaic Idealize.SL.Sem
open Idealize.ShloMosaic.TcCoe

variable {F : FTy → Type} [FloatOps F]

/-! ## Where a chunk lies -/

/-- The staged blocks of `a` and `b`, the result in HBM, and the four scratch buffers. -/
abbrev aM : Memref sig .tc .vmem S1536x768 .bf16 := Memref.whole cc0_stg0_0
abbrev bM : Memref sig .tc .vmem S768x1536 .bf16 := Memref.whole cc0_stg1_0
abbrev outM : Memref sig .tc .hbm S1536x1536 .bf16 := Memref.whole main_v1
abbrev xsM : Memref sig .tc .vmem S8x96x1536 .bf16 := Memref.whole cc0_scratch0
abbrev xrM : Memref sig .tc .vmem S8x96x1536 .bf16 := Memref.whole cc0_scratch1
abbrev ysM : Memref sig .tc .vmem S8x96x1536 .bf16 := Memref.whole cc0_scratch2
abbrev yrM : Memref sig .tc .vmem S8x96x1536 .bf16 := Memref.whole cc0_scratch3

/-- Chunk `r` of a scratch buffer fits in it, in whole tiles and whole words. -/
theorem slot_inb (r : Fin 8) : ∀ a, (![r.val, 0, 0] : Fin 3 → Nat) a + S1x96x1536.size a ≤ S8x96x1536.size a := by
  revert r; decide
abbrev slotRect (r : Fin 8) : Rect S8x96x1536 := Rect.unit (s := S8x96x1536) ![r.val, 0, 0] S1x96x1536.size (slot_inb r)
/-- A slot is packed, -/
theorem slot_packed (r : Fin 8) : (slotRect r).PackedRows (EltTy.packing .bf16) := by revert r; decide
/-- has whole words, -/
theorem slot_words (r : Fin 8) : (slotRect r).WholeWords (EltTy.packing .bf16) := by revert r; decide

/-- Chunk `r` of a scratch buffer, as a transfer names it. -/
abbrev slot (M : Memref sig .tc .vmem S8x96x1536 .bf16) (r : Fin 8) : Memref sig .tc .vmem S96x1536 .bf16 :=
  (M.slice (slotRect r) (fun _ => rfl)).squeeze S96x1536 squeezes_S1x96x1536_S96x1536

/-- and so has its memref. -/
theorem slot_exact (M : Memref sig .tc .vmem S8x96x1536 .bf16) (h : M.IsWhole) (r : Fin 8) : (slot M r).view.WordExact :=
  (h.wordExact_slice rfl _ (slot_words r)).reshape _ _

/-- The rows of `a` that chunk `r` of device `d` multiplies. -/
abbrev aRect (d : Dev nD) (r : Fin 8) : Rect S1536x768 :=
  Rect.unit (s := S1536x768) (k0_off1 d (BitVec.ofNat 32 (96 * r.val))) S96x768.size (k0_off1_inb d r)

/-- The rows of the result that chunk `r` of device `d`'s own half is copied to; -/
abbrev ownRows (d : Dev nD) (r : Fin 8) : Memref sig .tc .hbm S96x1536 .bf16 :=
  outM.slice (Rect.unit (s := S1536x1536) (k0_off2 d (BitVec.ofNat 32 (96 * r.val))) S96x1536.size (k0_off2_inb d r)) (fun _ => rfl)
/-- those of the other half. -/
abbrev otherRows (d : Dev nD) (r : Fin 8) : Memref sig .tc .hbm S96x1536 .bf16 :=
  outM.slice (Rect.unit (s := S1536x1536) (k0_off3 d (BitVec.ofNat 32 (96 * r.val))) S96x1536.size (k0_off3_inb d r)) (fun _ => rfl)

/-- The rows of the own half have whole words, -/
theorem ownRows_exact (d : Dev nD) (r : Fin 8) : (ownRows d r).view.WordExact :=
  (Memref.isWhole_whole main_v1).wordExact_slice rfl _ (k0_off2_wordsbf16 d r)
/-- and so have those of the other. -/
theorem otherRows_exact (d : Dev nD) (r : Fin 8) : (otherRows d r).view.WordExact :=
  (Memref.isWhole_whole main_v1).wordExact_slice rfl _ (k0_off3_wordsbf16 d r)

/-! ## The semaphores -/

/-- The barrier semaphore. -/
abbrev barS : Sem sig := (SemArray.scalar (sig.barrier 0 rfl) : Sems sig S_).sem

/-- The places of a chunk's semaphores lie within their arrays. -/
theorem sem8_inb (r : Fin 8) : ∀ a, (![r.val] : Fin 1 → Nat) a + S1.size a ≤ S8.size a := by revert r; decide
theorem semLo_inb (r : Fin 8) : ∀ a, (![r.val] : Fin 1 → Nat) a + S1.size a ≤ S16.size a := by revert r; decide
theorem semHi_inb (r : Fin 8) : ∀ a, (![r.val + 8] : Fin 1 → Nat) a + S1.size a ≤ S16.size a := by revert r; decide

/-- Semaphore `r` of an array of eight; of the first and of the second half of an array of sixteen. -/
abbrev sem8 (S : DmaSems sig S8) (r : Fin 8) : DmaSem sig :=
  ((S.slice (Rect.unit (s := S8) ![r.val] S1.size (sem8_inb r))).squeeze S_ squeezes_S1_S_).sem
/-- The semaphore of chunk `r` for the copy to the own half, -/
abbrev semLo (S : DmaSems sig S16) (r : Fin 8) : DmaSem sig :=
  ((S.slice (Rect.unit (s := S16) ![r.val] S1.size (semLo_inb r))).squeeze S_ squeezes_S1_S_).sem
/-- and for the copy to the other half. -/
abbrev semHi (S : DmaSems sig S16) (r : Fin 8) : DmaSem sig :=
  ((S.slice (Rect.unit (s := S16) ![r.val + 8] S1.size (semHi_inb r))).squeeze S_ squeezes_S1_S_).sem

/-! ## The pieces -/

/-- The neighbour along the first axis of the mesh, and along the second, as the program computes them. -/
abbrev xdev (d : Dev nD) : Dev nD := ⟨k0_dev1 d, k0_dev1_lt d⟩
/-- The neighbour along the second axis. -/
abbrev ydev (d : Dev nD) : Dev nD := ⟨k0_dev2 d, k0_dev2_lt d⟩

/-- The product of a chunk's rows of `a` with `b`; the rounded product, laid out as a slot. -/
abbrev part (b : Vec F S768x1536 .bf16) (a : Vec F S96x768 .bf16) : FVec F S96x1536 .f32 := k0_pay2 b a
/-- A product rounded, as the contents of a slot. -/
abbrev partSlot (p : FVec F S96x1536 .f32) : FVec F S1x96x1536 .bf16 :=
  shapeCast S1x96x1536 (truncf .bf16 p bitsLt_bf16_f32) shapeCasts_S96x1536_S1x96x1536
/-- The sum of a product and of the product received, rounded, laid out as a slot. -/
abbrev sumSlot (p : FVec F S96x1536 .f32) (w : Vec F S1x96x1536 .bf16) : FVec F S1x96x1536 .bf16 := k0_pay19 p w

/-- Programs of this kernel. -/
abbrev P (F : FTy → Type) (α : Type) : Type 1 := Prog (TpuEff nD τ sig (Elt F) Λ₀ .tc) α

/-- Multiply chunk `r` and store the rounded product in its slot of the first send buffer. -/
def compute (d : Dev nD) (b : Vec F S768x1536 .bf16) (r : Fin 8) : P F (FVec F S96x1536 .f32) := do
  let a : Vec F S96x768 .bf16 ← Prog.lift (.load aM (aRect d r).toLoadRect (View.loadsAt_vmem h_S96x768))
  let _ : Vec F S1x96x1536 .bf16 ← Prog.lift (.load xsM (slotRect r).toLoadRect (View.loadsAt_vmem h_S1x96x1536))
  Prog.lift (.store xsM (slotRect r) (partSlot (part b a)) Finset.univ (View.stores_vmem h_S1x96x1536 ((Memref.isWhole_whole cc0_scratch0).storeExact_slice rfl _ (slot_packed r)) (fun _ => rfl)) (.inl rfl))
  pure (part b a)

/-- Start the transfer of chunk `r` to the neighbour along the first axis. -/
def sendX (d : Dev nD) (r : Fin 8) : P F PUnit :=
  Prog.lift (.enqueueDma (slot xsM r) (.remote (Dev.tc (xdev d)) (slot xrM r) (.dma (sem8 cc0_scratch4 r))) (.dma (sem8 cc0_scratch5 r))
    (slot_exact xsM (Memref.isWhole_whole _) r) (slot_exact xrM (Memref.isWhole_whole _) r) ⟨⟨rfl, Or.inl rfl⟩, trivial⟩)

/-- Wait for the neighbour's chunk `r`, -/
def recvX (r : Fin 8) : P F PUnit :=
  Prog.lift (.waitDma2 (sem8 cc0_scratch5 r) (slot xsM r) (slot xrM r) (slot_exact xsM (Memref.isWhole_whole _) r) (slot_exact xrM (Memref.isWhole_whole _) r))

/-- add it to the own product and store the rounded sum in its slot of the second send buffer, -/
def addUp (p : FVec F S96x1536 .f32) (r : Fin 8) : P F PUnit := do
  let w : Vec F S1x96x1536 .bf16 ← Prog.lift (.load xrM (slotRect r).toLoadRect (View.loadsAt_vmem h_S1x96x1536))
  let _ : Vec F S1x96x1536 .bf16 ← Prog.lift (.load ysM (slotRect r).toLoadRect (View.loadsAt_vmem h_S1x96x1536))
  Prog.lift (.store ysM (slotRect r) (sumSlot p w) Finset.univ (View.stores_vmem h_S1x96x1536 ((Memref.isWhole_whole cc0_scratch2).storeExact_slice rfl _ (slot_packed r)) (fun _ => rfl)) (.inl rfl))

/-- start its transfer to the neighbour along the second axis, -/
def sendY (d : Dev nD) (r : Fin 8) : P F PUnit :=
  Prog.lift (.enqueueDma (slot ysM r) (.remote (Dev.tc (ydev d)) (slot yrM r) (.dma (sem8 cc0_scratch6 r))) (.dma (sem8 cc0_scratch7 r))
    (slot_exact ysM (Memref.isWhole_whole _) r) (slot_exact yrM (Memref.isWhole_whole _) r) ⟨⟨rfl, Or.inl rfl⟩, trivial⟩)

/-- and start its copy into the own half of the result. -/
def copyOwn (d : Dev nD) (r : Fin 8) : P F PUnit :=
  Prog.lift (.enqueueDma (slot ysM r) (.here (ownRows d r)) (.dma (semLo cc0_scratch8 r))
    (slot_exact ysM (Memref.isWhole_whole _) r) (ownRows_exact d r) ⟨Or.inl rfl, trivial⟩)

/-- Wait for the second neighbour's sum `r`, -/
def recvY (r : Fin 8) : P F PUnit :=
  Prog.lift (.waitDma2 (sem8 cc0_scratch7 r) (slot ysM r) (slot yrM r) (slot_exact ysM (Memref.isWhole_whole _) r) (slot_exact yrM (Memref.isWhole_whole _) r))

/-- and start its copy into the other half of the result. -/
def copyOther (d : Dev nD) (r : Fin 8) : P F PUnit :=
  Prog.lift (.enqueueDma (slot yrM r) (.here (otherRows d r)) (.dma (semHi cc0_scratch8 r))
    (slot_exact yrM (Memref.isWhole_whole _) r) (otherRows_exact d r) ⟨Or.inl rfl, trivial⟩)

/-- The waits for the two copies of chunk `r` into the result, and for its two transfers. -/
def waitOwn (d : Dev nD) (r : Fin 8) : P F PUnit :=
  Prog.lift (.waitDma2 (semLo cc0_scratch8 r) (slot ysM r) (ownRows d r) (slot_exact ysM (Memref.isWhole_whole _) r) (ownRows_exact d r))
/-- The wait for the copy to the other half, -/
def waitOther (d : Dev nD) (r : Fin 8) : P F PUnit :=
  Prog.lift (.waitDma2 (semHi cc0_scratch8 r) (slot yrM r) (otherRows d r) (slot_exact yrM (Memref.isWhole_whole _) r) (otherRows_exact d r))
/-- for the first send, -/
def waitX (r : Fin 8) : P F PUnit :=
  Prog.lift (.waitDma2 (sem8 cc0_scratch4 r) (slot xrM r) (slot xsM r) (slot_exact xrM (Memref.isWhole_whole _) r) (slot_exact xsM (Memref.isWhole_whole _) r))
/-- and for the second send. -/
def waitY (r : Fin 8) : P F PUnit :=
  Prog.lift (.waitDma2 (sem8 cc0_scratch6 r) (slot yrM r) (slot ysM r) (slot_exact yrM (Memref.isWhole_whole _) r) (slot_exact ysM (Memref.isWhole_whole _) r))

/-! ## The loops -/

/-- Multiply and send the listed chunks; the products come back in the list's order. -/
def phase1 (d : Dev nD) (b : Vec F S768x1536 .bf16) : List (Fin 8) → P F (List (FVec F S96x1536 .f32))
  | [] => pure []
  | r :: l => do
    let p ← compute d b r
    sendX d r
    let ps ← phase1 d b l
    pure (p :: ps)

/-- Receive, add, send on and copy the listed chunks, the own products beside them. -/
def phase2 (d : Dev nD) : List (Fin 8) → List (FVec F S96x1536 .f32) → P F PUnit
  | r :: l, p :: ps => do
    recvX r
    addUp p r
    sendY d r
    copyOwn d r
    phase2 d l ps
  | _, _ => pure ⟨⟩

/-- One thing done to each of the listed chunks in turn. -/
def each (w : Fin 8 → P F PUnit) : List (Fin 8) → P F PUnit
  | [] => pure ⟨⟩
  | r :: l => do
    w r
    each w l

/-- What is done to each chunk of the other half, and the waits for both its transfers at the end. -/
def phase3 (d : Dev nD) (r : Fin 8) : P F PUnit := do
  recvY r
  copyOther d r
/-- Both waits for the sends of a chunk. -/
def waitXY (r : Fin 8) : P F PUnit := do
  waitX r
  waitY r

/-- The chunks. -/
abbrev rest : List (Fin 8) := [1, 2, 3, 4, 5, 6, 7]
/-- All chunks. -/
abbrev chunks : List (Fin 8) := 0 :: rest

/-- The whole kernel. -/
def body : P F PUnit := do
  let d : Dev nD ← Prog.lift .deviceId
  semSignalWord (xdev d) barS 1#32
  semSignalWord (ydev d) barS 1#32
  let b : Vec F S768x1536 .bf16 ← Prog.lift (.load bM (Rect.unit (s := S768x1536) ![0, 0] S768x1536.size inb_S768x1536_S768x1536_0_0).toLoadRect (View.loadsAt_vmem h_S768x1536))
  let p ← compute d b 0
  semWaitWord barS 2#32
  sendX d 0
  let ps ← phase1 d b rest
  phase2 d chunks (p :: ps)
  each (phase3 d) chunks
  each (waitOwn d) chunks
  each (waitOther d) chunks
  each waitXY chunks

/-! ## It is the printed program -/

set_option maxHeartbeats 2000000 in
set_option maxRecDepth 65536 in
/-- The printed program, on the buffers the kernel is launched with, is the program by chunks. -/
theorem body_eq :
    cc0_body (F := F) aM (Memref.isWhole_whole _) bM (Memref.isWhole_whole _) outM (Memref.isWhole_whole _) xsM (Memref.isWhole_whole _) xrM (Memref.isWhole_whole _)
      ysM (Memref.isWhole_whole _) yrM (Memref.isWhole_whole _) cc0_scratch4 cc0_scratch5 cc0_scratch6 cc0_scratch7 cc0_scratch8 = body := by
  rw [cc0_body_eq_skeleton]
  rfl

end Cert.KernelIdeal.Mesh

end

end
-- ==== Proof.KernelIdeal.Schedule.lean ====
module

public import proofs.«01_k».proof.Proof.KernelIdeal.Program
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Tactic

/-!
# Who pays what to whom

Every device has one barrier cell and forty-eight transfer cells: six kinds for each of the eight chunks.
Each cell is used once.  This module says what each payment hands over, with its contents, in which order
a device may wait, and what the devices owe each other at the start.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging library's copy of the rounds, and the kernel's own. -/
abbrev UB : Type := URounds (GSem nD τ sig) Bool
abbrev UU : Type := UR sig nD τ × UB

local notation "𝕄" => MT nD τ sig Unit (Elt F) ℕ UU ℕ

/-- Where the two copies of the rounds lie in the ghost state. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The neighbours -/

/-- The neighbour along the first axis of the mesh, and along the second. -/
def xp (c : Dev nD) : Dev nD := xdev c
def yp (c : Dev nD) : Dev nD := ydev c

/-- Each is the neighbour of its neighbour, -/
theorem xp_xp (c : Dev nD) : xp (xp c) = c := by revert c; decide
theorem yp_yp (c : Dev nD) : yp (yp c) = c := by revert c; decide
/-- so both are permutations of the devices. -/
def xEquiv : Dev nD ≃ Dev nD := ⟨xp, xp, xp_xp, xp_xp⟩
def yEquiv : Dev nD ≃ Dev nD := ⟨yp, yp, yp_yp, yp_yp⟩

/-! ## The cells -/

/-- The number of a transfer semaphore is within bounds. -/
theorem dsem_lt (a : Fin 6) (r : Fin 8) : 2 + (r.val + 8 * a.val) < 50 := by omega
/-- The transfer semaphore of kind `a` and chunk `r`: kind 0 is the first send, 1 the first receive, 2 the second
    send, 3 the second receive, 4 the copy to the own half, 5 the copy to the other half. -/
def dsem (a : Fin 6) (r : Fin 8) : DmaSem sig := ⟨2 + (r.val + 8 * a.val), dsem_lt a r⟩

/-- The program's semaphores for a chunk, by their kinds. -/
theorem sem_xs (r : Fin 8) : sem8 cc0_scratch4 r = dsem 0 r := by revert r; decide
theorem sem_xr (r : Fin 8) : sem8 cc0_scratch5 r = dsem 1 r := by revert r; decide
theorem sem_ys (r : Fin 8) : sem8 cc0_scratch6 r = dsem 2 r := by revert r; decide
theorem sem_yr (r : Fin 8) : sem8 cc0_scratch7 r = dsem 3 r := by revert r; decide
theorem sem_own (r : Fin 8) : semLo cc0_scratch8 r = dsem 4 r := by revert r; decide
theorem sem_other (r : Fin 8) : semHi cc0_scratch8 r = dsem 5 r := by revert r; decide

/-- The kind and the chunk of a transfer semaphore. -/
def kind (q : DmaSem sig) : ℕ := (q.val - 2) / 8
def chunk (q : DmaSem sig) : Fin 8 := ⟨(q.val - 2) % 8, Nat.mod_lt _ (by decide)⟩
/-- The semaphore of a kind and a chunk has that kind, -/
theorem kind_dsem (a : Fin 6) (r : Fin 8) : kind (dsem a r) = a.val := by
  show (2 + (r.val + 8 * a.val) - 2) / 8 = a.val
  omega
/-- and that chunk. -/
theorem chunk_dsem (a : Fin 6) (r : Fin 8) : chunk (dsem a r) = r := by
  apply Fin.ext
  show (2 + (r.val + 8 * a.val) - 2) % 8 = r.val
  omega

/-- The cell of a device's barrier, and the cell of a transfer. -/
abbrev barCell (c : Dev nD) : GSem nD τ sig := ((c : Thread nD τ), .reg barS)
abbrev dCell (c : Dev nD) (a : Fin 6) (r : Fin 8) : GSem nD τ sig := ((c : Thread nD τ), .dma (dsem a r))

/-- What one chunk's transfer adds to a counter. -/
abbrev N : ℕ := (slot xsM 0).view.dmaCredit
/-- It is positive. -/
theorem N_pos : 0 < N := View.dmaCredit_pos _ (by decide)
/-- Every transfer of a chunk adds as much. -/
theorem N_xs (r : Fin 8) : (slot xsM r).view.dmaCredit = N := rfl
theorem N_xr (r : Fin 8) : (slot xrM r).view.dmaCredit = N := rfl
theorem N_ys (r : Fin 8) : (slot ysM r).view.dmaCredit = N := rfl
theorem N_yr (r : Fin 8) : (slot yrM r).view.dmaCredit = N := rfl
theorem N_own (d : Dev nD) (r : Fin 8) : (ownRows d r).view.dmaCredit = N := rfl
theorem N_other (d : Dev nD) (r : Fin 8) : (otherRows d r).view.dmaCredit = N := rfl

/-! ## The contents -/

/-- The blocks of `a` and of `b` staged on device `c`. -/
def aStg (c : Dev nD) : (cc0_stg0_0 : Ref sig .tc).ty.Contents (Elt F) :=
  (win0_0.blk (0 : Fin 1)).view.read (Elt F) ((s₀ m ρ).mem ((c : Thread nD τ).loc main_arg0))
def bStg (c : Dev nD) : (cc0_stg1_0 : Ref sig .tc).ty.Contents (Elt F) :=
  (win0_1.blk (0 : Fin 1)).view.read (Elt F) ((s₀ m ρ).mem ((c : Thread nD τ).loc main_arg1))

/-- Device `c`'s product for chunk `r`, the product rounded, and its sum with the neighbour's rounded. -/
def prod (c : Dev nD) (r : Fin 8) : FVec F S96x1536 .f32 :=
  part (bStg m ρ c) (aM.view.readAt (Elt F) (aRect c r).toLoadRect (aStg m ρ c))
def sent (c : Dev nD) (r : Fin 8) : FVec F S96x1536 .bf16 := truncf .bf16 (prod m ρ c r) bitsLt_bf16_f32
def summed (c : Dev nD) (r : Fin 8) : FVec F S96x1536 .bf16 :=
  truncf .bf16 (addf (prod m ρ c r) (extf .f32 (sent m ρ (xp c) r) bitsLt_bf16_f32)) bitsLt_bf16_f32

/-- Memref `M` of device `c`, share `q`, with any contents. -/
def any (c : Dev nD) {sp : Space} {s : Shape} {e : EltTy} (M : Memref sig .tc sp s e) (q : PosShare TreeShare) : sProp 𝕄 :=
  iprop(∃ v, owns (Ix := Unit) (Name := ℕ) (U := UU) (Lvl := ℕ) (c : Thread nD τ) M q v)

/-- Memref `M` of device `c`, share `q`, holding `v`. -/
abbrev has (c : Dev nD) {sp : Space} {s : Shape} {e : EltTy} (M : Memref sig .tc sp s e) (q : PosShare TreeShare) (v : s.Idx → Elt F e) : sProp 𝕄 :=
  owns (Ix := Unit) (Name := ℕ) (U := UU) (Lvl := ℕ) (c : Thread nD τ) M q v

omit [FloatOps F] in
/-- Ownership with any contents may be kept in a cell. -/
instance any_storable (c : Dev nD) {sp : Space} {s : Shape} {e : EltTy} (M : Memref sig .tc sp s e) (q : PosShare TreeShare) :
    BI.Storable (upEmb : UEmb _ 𝕄) (any (F := F) c M q) := by unfold any; infer_instance

/-! ## What each payment hands over -/

/-- The neighbour's eight landing slots. -/
def landX (c : Dev nD) : sProp 𝕄 := bigSepL chunks fun r => any c (slot xrM r) fullShare
def landY (c : Dev nD) : sProp 𝕄 := bigSepL chunks fun r => any c (slot yrM r) fullShare

/-- What the transfer of kind `a` and chunk `r` leaves with device `c`: a send gives the source back, a receive
    brings the neighbour's values, a copy has written its rows of the result and gives its source back. -/
def pay (c : Dev nD) (a : ℕ) (r : Fin 8) : sProp 𝕄 :=
  match a with
  | 0 => any c (slot xsM r) fullShare
  | 1 => has c (slot xrM r) fullShare (sent m ρ (xp c) r)
  | 2 => any c (slot ysM r) fullShare.left
  | 3 => has c (slot yrM r) fullShare (summed m ρ (yp c) r)
  | 4 => iprop(has c (ownRows c r) fullShare (summed m ρ c r) ∗ any c (slot ysM r) fullShare.right)
  | 5 => iprop(has c (otherRows c r) fullShare (summed m ρ (yp c) r) ∗ any c (slot yrM r) fullShare)
  | _ => iprop(emp)

omit [FloatOps F] in
/-- So may a family of what may be kept, -/
theorem listed_storable (l : List (Fin 8)) (Φ : Fin 8 → sProp 𝕄) (h : ∀ r, BI.Storable (upEmb : UEmb _ 𝕄) (Φ r)) :
    BI.Storable (upEmb : UEmb _ 𝕄) (bigSepL l Φ) := by
  induction l with
  | nil => show BI.Storable (upEmb : UEmb _ 𝕄) (iprop(emp) : sProp 𝕄); infer_instance
  | cons r l ih => rw [bigSepL_cons']; have := h r; infer_instance
omit [FloatOps F] in
/-- the landing slots, -/
instance landX_storable (c : Dev nD) : BI.Storable (upEmb : UEmb _ 𝕄) (landX (F := F) c) := listed_storable _ _ fun _ => any_storable ..
omit [FloatOps F] in
instance landY_storable (c : Dev nD) : BI.Storable (upEmb : UEmb _ 𝕄) (landY (F := F) c) := listed_storable _ _ fun _ => any_storable ..
/-- and what a transfer leaves. -/
instance pay_storable (c : Dev nD) (a : ℕ) (r : Fin 8) : BI.Storable (upEmb : UEmb _ 𝕄) (pay m ρ c a r) := by
  unfold pay; split <;> infer_instance

/-- The schedule: one round; a barrier cell has two payments of one unit, from the first neighbour (`false`) and from
    the second (`true`), each handing over its payer's landing slots; a transfer cell has one payment. -/
def Rd : Rounds.Schedule (GSem nD τ sig) Bool 𝕄 where
  duties g r := if r = 0 ∧ g.1.2 = .tc then (match g.2 with | .reg _ => Finset.univ | .dma q => if 2 ≤ q.val then {false} else ∅) else ∅
  unitless _ := False
  amount g _ _ := match g.2 with | .reg _ => 1 | .dma _ => N
  payload g _ d := match g.2 with
    | .reg _ => if d then landY (yp g.1.1) else landX (xp g.1.1)
    | .dma q => pay m ρ g.1.1 (kind q) (chunk q)
  amount_pos g _ _ _ := by
    cases g.2 with
    | reg => exact Nat.one_pos
    | dma => exact N_pos

/-- Every payload of the schedule may be kept in a cell. -/
instance Rd_payload_storable (g : GSem nD τ sig) (r : ℕ) (d : Bool) : BI.Storable (upEmb : UEmb _ 𝕄) ((Rd m ρ).payload g r d) := by
  obtain ⟨t, s⟩ := g
  cases s with
  | reg q =>
    show BI.Storable upEmb (if d then landY (yp t.1) else landX (xp t.1))
    split <;> infer_instance
  | dma q =>
    show BI.Storable upEmb (pay m ρ t.1 (kind q) (chunk q))
    infer_instance

section Table
variable (c : Dev nD) (a : Fin 6) (r : Fin 8) (d : Bool)

/-- A barrier has both payments, -/
theorem duties_bar : (Rd m ρ).duties (barCell c) 0 = Finset.univ := by dsimp only [Rd]; exact if_pos ⟨rfl, rfl⟩
/-- a transfer cell has one, -/
theorem duties_d : (Rd m ρ).duties (dCell c a r) 0 = {false} := by
  dsimp only [Rd]
  rw [if_pos ⟨rfl, rfl⟩]
  exact if_pos (show 2 ≤ 2 + (r.val + 8 * a.val) from Nat.le_add_right 2 _)
/-- and later rounds have none. -/
theorem duties_later (g : GSem nD τ sig) : ∀ n, 1 ≤ n → (Rd m ρ).duties g n = ∅ :=
  fun n hn => if_neg fun h => absurd h.1 (by omega)
/-- The amount of each payment, -/
theorem amount_bar : (Rd m ρ).amount (barCell c) 0 d = 1 := rfl
theorem amount_d : (Rd m ρ).amount (dCell c a r) 0 d = N := rfl
/-- and of all of a round together. -/
theorem expect_bar : (Rd m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (Rd m ρ).expect (dCell c a r) 0 = N := by
  unfold Schedule.expect Schedule.amountOf; rw [duties_d, Finset.sum_singleton, amount_d]
/-- What each payment hands over. -/
theorem payload_bar_false : (Rd m ρ).payload (barCell c) 0 false = landX (xp c) := rfl
theorem payload_bar_true : (Rd m ρ).payload (barCell c) 0 true = landY (yp c) := rfl
theorem payload_d : (Rd m ρ).payload (dCell c a r) 0 d = pay m ρ c a.val r := by
  show pay m ρ c (kind (dsem a r)) (chunk (dsem a r)) = _
  rw [kind_dsem, chunk_dsem]
/-- All that the payments to a barrier cell, and the payment to a transfer cell, hand over. -/
theorem rest_bar : bigSep ((Rd m ρ).duties (barCell c) 0 \ ∅) (fun d => (Rd m ρ).payload (barCell c) 0 d) = iprop(landX (xp c) ∗ landY (yp c)) := by
  rw [Finset.sdiff_empty, duties_bar, bigSep_univ_eq_bigSepL [false, true] (by decide) (by decide), bigSepL_cons_cons, bigSepL_singleton]
  rfl
theorem rest_d : bigSep ((Rd m ρ).duties (dCell c a r) 0 \ ∅) (fun d => (Rd m ρ).payload (dCell c a r) 0 d) = pay m ρ c a.val r := by
  rw [Finset.sdiff_empty, duties_d, bigSep_singleton, payload_d]

end Table

/-! ## What is owed, and the order of the waits -/

/-- What device `c` owes for the listed chunks: to its first neighbour, and to its second. -/
def OX (c : Dev nD) : List (Fin 8) → CellTallies nD τ sig Unit
  | [] => 0
  | r :: l => OX c l + tallyAt (dCell (xp c) 1 r) () N
def OY (c : Dev nD) : List (Fin 8) → CellTallies nD τ sig Unit
  | [] => 0
  | r :: l => OY c l + tallyAt (dCell (yp c) 3 r) () N
/-- What it owes at the start: those and a unit at either neighbour's barrier. -/
def O₂ (c : Dev nD) : CellTallies nD τ sig Unit := OY c chunks + OX c chunks
def O₁ (c : Dev nD) : CellTallies nD τ sig Unit := O₂ c + tallyAt (barCell (yp c)) () 1
def O₀ (c : Dev nD) : CellTallies nD τ sig Unit := O₁ c + tallyAt (barCell (xp c)) () 1

/-- Every cell of a device's main core has one index. -/
def L (g : GSem nD τ sig) : Finset Unit := if g.1.2 = .tc then {()} else ∅
/-- The order: the cells a device waits for while it owes come before the cells it owes to. -/
def lv (g : GSem nD τ sig) (_ : Unit) : ℕ :=
  match g.2 with
  | .reg _ => 1
  | .dma q => if kind q = 1 then 2 else if kind q = 3 then 3 else 0

/-- The indices and the order of the cells, evaluated. -/
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_d (c : Dev nD) (a : Fin 6) (r : Fin 8) (u : Unit) : lv (dCell c a r) u = if a.val = 1 then 2 else if a.val = 3 then 3 else 0 := by
  show (if kind (dsem a r) = 1 then 2 else if kind (dsem a r) = 3 then 3 else 0) = _
  rw [kind_dsem]

/-- What is positive in a sum is positive in one of its terms. -/
theorem add_pos_cases {O O' : CellTallies nD τ sig Unit} {g : GSem nD τ sig} {u : Unit} (h : 0 < (O + O') g u) : 0 < O g u ∨ 0 < O' g u := by
  rw [Pi.add_apply, Finsupp.add_apply] at h; omega

/-- What is owed to the x neighbour is owed to its first receives, -/
theorem OX_pos {c : Dev nD} {l : List (Fin 8)} {g : GSem nD τ sig} {u : Unit} (h : 0 < OX c l g u) : ∃ r, g = dCell (xp c) 1 r := by
  induction l with
  | nil => exact absurd h (Nat.lt_irrefl 0)
  | cons r l ih =>
    rcases add_pos_cases h with h | h
    · exact ih h
    · exact ⟨r, (Pipeline.tallyAt_pos h).1⟩
/-- and what is owed to the y neighbour to its second receives. -/
theorem OY_pos {c : Dev nD} {l : List (Fin 8)} {g : GSem nD τ sig} {u : Unit} (h : 0 < OY c l g u) : ∃ r, g = dCell (yp c) 3 r := by
  induction l with
  | nil => exact absurd h (Nat.lt_irrefl 0)
  | cons r l ih =>
    rcases add_pos_cases h with h | h
    · exact ih h
    · exact ⟨r, (Pipeline.tallyAt_pos h).1⟩

/-- A device may wait on a cell that comes before every cell it owes to. -/
theorem mayWait_of (c : Dev nD) (sm : SemLoc sig) (O : CellTallies nD τ sig Unit)
    (h : ∀ (g : GSem nD τ sig) (u : Unit), 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp])
    (fun g u hg => (h g u hg).2)

/-- A device may wait at its barrier while it owes every transfer, -/
theorem mayWait_bar (c : Dev nD) : (levAts L lv : sProp 𝕄) ⊢ MayWait (c : Thread nD τ) (.reg barS) () (O₂ c) :=
  mayWait_of c _ _ fun g u h => by
    rcases add_pos_cases h with h | h
    · obtain ⟨r, rfl⟩ := OY_pos h; exact ⟨rfl, by rw [lv_d]; exact (by decide : (1 : ℕ) < 3)⟩
    · obtain ⟨r, rfl⟩ := OX_pos h; exact ⟨rfl, by rw [lv_d]; exact (by decide : (1 : ℕ) < 2)⟩

/-- for a first receive while it owes second sends, -/
theorem mayWait_recvX (c : Dev nD) (r : Fin 8) (l : List (Fin 8)) : (levAts L lv : sProp 𝕄) ⊢ MayWait (c : Thread nD τ) (.dma (dsem 1 r)) () (OY c l) :=
  mayWait_of c _ _ fun g u h => by
    obtain ⟨r', rfl⟩ := OY_pos h
    exact ⟨rfl, by rw [lv_d, lv_d]; decide⟩

/-- and for anything once it owes nothing. -/
theorem mayWait_zero (c : Dev nD) (sm : SemLoc sig) : (levAts L lv : sProp 𝕄) ⊢ MayWait (c : Thread nD τ) sm () 0 := by
  rw [MayWait_zero]; iintro -; iempintro

/-- The staging cells come before everything. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_of c _ _ fun g u h => ?_
    have h0 : lv ((c : Thread nD τ), .dma q) () = 0 := by
      have : kind q = 0 := by unfold kind; omega
      show (if kind q = 1 then 2 else if kind q = 3 then 3 else 0) = 0
      rw [this]; rfl
    rw [h0]
    rcases add_pos_cases h with h | h
    · rcases add_pos_cases h with h | h
      · rcases add_pos_cases h with h | h
        · obtain ⟨r, rfl⟩ := OY_pos h; exact ⟨rfl, by rw [lv_d]; decide⟩
        · obtain ⟨r, rfl⟩ := OX_pos h; exact ⟨rfl, by rw [lv_d]; decide⟩
      · rw [(Pipeline.tallyAt_pos h).1]; exact ⟨rfl, by rw [lv_bar]; decide⟩
    · rw [(Pipeline.tallyAt_pos h).1]; exact ⟨rfl, by rw [lv_bar]; decide⟩
  · exact mayWait_zero c _

end Cert.KernelIdeal.Mesh

end

end
-- ==== Proof.KernelIdeal.Steps.lean ====
module

public import proofs.«01_k».proof.Proof.KernelIdeal.Schedule
public import Idealize.ShloMosaic.Lib.MemrefSat

/-!
# One chunk at a time

What each piece of the program does to a chunk, at a device and a chunk that are not named: the load and
the store of a slot, the multiplication, the two transfers, the two copies and the waits.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No variants are used. -/
abbrev 𝒱₀ : Variants := Variants.none

/-- Running `p` on device `c` establishes `Q`. -/
abbrev runs (c : Dev nD) {α : Type} (p : P F α) (Q : α → sProp 𝕄) : sProp 𝕄 :=
  wp frame (wpE (defs₀ (F := F)) 𝒱₀ (c : Thread nD τ) none) Set.univ p Q

omit [FloatOps F] in
/-- The elements of a memref, read, are its contents. -/
theorem has_intro (c : Dev nD) {sp : Space} {s : Shape} {e : EltTy} (M : Memref sig .tc sp s e) (q : PosShare TreeShare)
    (f : Buf (Elt F) (M.view.loc (c : Thread nD τ))) (v : s.Idx → Elt F e) (hf : M.view.read (Elt F) f = v) :
    (M.view.loc (c : Thread nD τ) ↦[M.view.set]{q} f : sProp 𝕄) ⊢ has c M q v := by
  unfold has owns
  iintro H
  iexists f
  isplitr; · ipureintro; exact hf
  iexact H

/-! ## Slots -/

/-- A load of slot `r` reads what the slot holds. -/
theorem slot_load (c : Dev nD) (M : Memref sig .tc .vmem S8x96x1536 .bf16) (r : Fin 8) (q : PosShare TreeShare)
    (v : S96x1536.Idx → Elt F .bf16) {hl : M.view.LoadsAt (slotRect r).toLoadRect} {α : Type} {k : Vec F S1x96x1536 .bf16 → P F α} {Q : α → sProp 𝕄} :
    (has c (slot M r) q v : sProp 𝕄)
      ⊢ iprop((has c (slot M r) q v -∗ runs c (k (shapeCast S1x96x1536 v shapeCasts_S96x1536_S1x96x1536)) Q)
        -∗ runs c (.op (.load M (slotRect r).toLoadRect hl) k) Q) := by
  unfold has owns
  iintro ⟨%f, %hf, H⟩ Hk
  have hset : (slot M r).view.set = M.view.setOn (slotRect r).set := (View.set_reshape _ _).trans (View.set_slice _ _)
  have hv : M.view.readAt (Elt F) (slotRect r).toLoadRect f = shapeCast S1x96x1536 v shapeCasts_S96x1536_S1x96x1536 := by
    rw [← hf]
    exact (shapeCast_shapeCast (M.view.readAt (Elt F) (slotRect r).toLoadRect f) shapeCasts_S1x96x1536_S96x1536 shapeCasts_S96x1536_S1x96x1536).symm
  iapply (wp_load 𝒱₀ (c : Thread nD τ) none Set.univ (m := M) (S := (slot M r).view.set) (f := f) (subset_of_eq hset.symm)) $$ [H]
  · iexact H
  iintro H
  rw [hv]
  iapply Hk
  iexists f
  isplitr; · ipureintro; exact hf
  iexact H

/-- A store to slot `r` leaves the stored vector in it. -/
theorem slot_store (c : Dev nD) (M : Memref sig .tc .vmem S8x96x1536 .bf16) (r : Fin 8) (v : S96x1536.Idx → Elt F .bf16) (w : Vec F S1x96x1536 .bf16)
    {hx : (M.access (slotRect r)).Stores Finset.univ} {hm : (Finset.univ : Finset (slotRect r).shape.Idx) = Finset.univ ∨ ∀ a, (slotRect r).stride a = 1}
    {α : Type} {k : PUnit → P F α} {Q : α → sProp 𝕄} :
    (has c (slot M r) fullShare v : sProp 𝕄)
      ⊢ iprop((has c (slot M r) fullShare (shapeCast S96x1536 w shapeCasts_S1x96x1536_S96x1536) -∗ runs c (k ⟨⟩) Q)
        -∗ runs c (.op (.store M (slotRect r) w Finset.univ hx hm) k) Q) := by
  unfold has owns
  iintro ⟨%f, %hf, H⟩ Hk
  have hset : (slot M r).view.set = (M.access (slotRect r)).setOn Finset.univ := View.set_reshape _ _
  iapply (wp_store 𝒱₀ (c : Thread nD τ) none Set.univ (m := M) (r := slotRect r) (S := (slot M r).view.set) (f := f) (subset_of_eq hset.symm)) $$ [H]
  · iexact H
  iintro H
  iapply Hk
  iexists ((M.access (slotRect r)).write (Elt F) f w Finset.univ)
  isplitr
  · ipureintro
    show shapeCast S96x1536 ((M.access (slotRect r)).read (Elt F) ((M.access (slotRect r)).write (Elt F) f w Finset.univ)) shapeCasts_S1x96x1536_S96x1536 = _
    rw [View.read_write_univ]
  iexact H

omit [FloatOps F] in
/-- The two halves of a share of a memref are the whole of it. -/
theorem any_join (c : Dev nD) {sp : Space} {s : Shape} {e : EltTy} (M : Memref sig .tc sp s e) :
    (iprop(any c M fullShare.left ∗ any c M fullShare.right) : sProp 𝕄) ⊢ any c M fullShare := by
  unfold any
  iintro ⟨⟨%v, H⟩, ⟨%w, G⟩⟩
  iexists v
  iapply (owns_halves (c := (c : Thread nD τ)) (m := M) (q := fullShare) v).2
  iapply (owns_agree (c := (c : Thread nD τ)) (m := M) (q := fullShare.left) (Φ := fun _ => True) fullShare.right v)
  isplitl [H]; · iexact H
  unfold owns ownsSat
  icases G with ⟨%g, %hg, G⟩
  iexists g
  isplitr; · ipureintro; trivial
  iexact G

/-! ## The cells' records -/

/-- One device's cells: the barrier's, and those of a kind and a chunk. -/
abbrev Cell : Type := Option (Fin 6 × Fin 8)
/-- The semaphore of a cell of a device, -/
abbrev csem : Cell → SemLoc sig
  | none => .reg barS
  | some (a, r) => .dma (dsem a r)
/-- and the cell itself. -/
abbrev kcell (ck : Dev nD × Cell) : GSem nD τ sig := ((ck.1 : Thread nD τ), csem ck.2)

/-- Every cell's invariant, under the names `K`, and that every cell is at its one round. -/
def records (K : Dev nD × Cell → ℕ) : sProp 𝕄 :=
  iprop((bigSep Finset.univ fun ck : Dev nD × Cell => cellInv ER (Rd m ρ) (K ck) (kcell ck))
    ∗ bigSep Finset.univ fun ck : Dev nD × Cell => reached ER (kcell ck) 0)

/-- The record of the cells is kept. -/
instance records_persistent (K : Dev nD × Cell → ℕ) : BI.Persistent (records m ρ K) := by unfold records; infer_instance

/-- It has every cell's invariant, -/
theorem inv_at (K : Dev nD × Cell → ℕ) (ck : Dev nD × Cell) : records m ρ K ⊢ cellInv ER (Rd m ρ) (K ck) (kcell ck) := by
  unfold records
  exact sep_elim_left.trans (bigSep_elim (Finset.mem_univ ck))
/-- and that every cell has reached its first round. -/
theorem reached_at (K : Dev nD × Cell → ℕ) (ck : Dev nD × Cell) : records m ρ K ⊢ reached ER (kcell ck) 0 := by
  unfold records
  exact sep_elim_right.trans (bigSep_elim (Finset.mem_univ ck))

/-- Device `c` owes `O`. -/
def ow (c : Dev nD) (O : CellTallies nD τ sig Unit) : sProp 𝕄 := iprop(∃ W, owes (c : Thread nD τ) O W)

/-! ## Waits -/

/-- The wait on a transfer cell brings what the transfer hands over, and the cell is done. -/
theorem wait_d (K : Dev nD × Cell → ℕ) (c : Dev nD) (a : Fin 6) (r : Fin 8) (O : CellTallies nD τ sig Unit)
    (hw : (levAts L lv : sProp 𝕄) ⊢ MayWait (c : Thread nD τ) (.dma (dsem a r)) () O)
    {sp sp' : Space} {s s' : Shape} {e e' : EltTy} (sem : DmaSem sig) (hsem : sem = dsem a r) (src : Memref sig .tc sp' s' e') (dst : Memref sig .tc sp s e)
    (hN : dst.view.dmaCredit = N) {h₁ : src.view.WordExact} {h₂ : dst.view.WordExact} {Q : PUnit → sProp 𝕄} :
    iprop(records m ρ K ∗ levAts L lv ∗ cred (tallyAt (dCell c a r) () N) ∗ ow c O ∗ atPos ER (dCell c a r) 0 ∅ 0)
      ⊢ iprop(((ow c O ∗ semVal (dCell c a r) 0 ∗ pay m ρ c a.val r) -∗ Q ⟨⟩)
        -∗ runs c (Prog.lift (.waitDma2 sem src dst h₁ h₂)) Q) := by
  subst hsem
  unfold ow
  simp only [Prog.lift]
  iintro ⟨#HR, #Hlev, Hc, ⟨%W, HO⟩, Hat⟩ Hk
  iapply (Rounds.wp_wait_rest_token 𝒱₀ ER (Rd m ρ) (c : Thread nD τ) none (κ := K (c, some (a, r)))
      (wpE_waitDma2_eq 𝒱₀ (c : Thread nD τ) none Set.univ) (Set.mem_univ _) () (O := O) (W := W) (R := 0) (m := 0) (T := ∅)
      (by rw [Nat.zero_add, expect_d, hN])) $$ [Hc HO Hat]
  · isplitr; · iapply (inv_at m ρ K (c, some (a, r))); iexact HR
    isplitl [Hc]; · rw [hN]; iexact Hc
    isplitl [HO]; · iexact HO
    isplitr; · iapply hw; iexact Hlev
    iexact Hat
  iintro ⟨HO, Hat, -, Hpay⟩
  ihave Hp := (Entails.of_eq (rest_d m ρ c a r)) $$ Hpay
  imod (Rounds.cell_close ER (Rd m ρ) (Set.mem_univ (K (c, some (a, r)))) (fun h => h) (R := 0 + 1) (duties_later m ρ (dCell c a r))) $$ [Hat] with Hz
  · isplitr; · iapply (inv_at m ρ K (c, some (a, r))); iexact HR
    iexact Hat
  rw [wp_ret]
  imodintro
  iapply Hk
  isplitl [HO]; · iexists _; iexact HO
  isplitl [Hz]; · iexact Hz
  iexact Hp

/-- The wait for both neighbours brings their landing slots, and the barrier cell is done. -/
theorem wait_bar (K : Dev nD × Cell → ℕ) (c : Dev nD) {Q : PUnit → sProp 𝕄} :
    iprop(records m ρ K ∗ levAts L lv ∗ cred (tallyAt (barCell c) () 2) ∗ ow c (O₂ c) ∗ atPos ER (barCell c) 0 ∅ 0)
      ⊢ iprop(((ow c (O₂ c) ∗ semVal (barCell c) 0 ∗ landX (xp c) ∗ landY (yp c)) -∗ Q ⟨⟩)
        -∗ runs c (semWaitWord barS 2#32) Q) := by
  unfold ow
  simp only [semWaitWord, Prog.lift]
  iintro ⟨#HR, #Hlev, Hc, ⟨%W, HO⟩, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  rw [wp_ret]
  imodintro
  iapply Hk
  isplitl [HO]; · iexists _; iexact HO
  isplitl [Hz]; · iexact Hz
  iexact Hp

/-- A signal to a neighbour's barrier cell hands it the payment `d`. -/
theorem signal_bar (K : Dev nD × Cell → ℕ) (c n : Dev nD) (d : Bool) (O : CellTallies nD τ sig Unit) (X : sProp 𝕄)
    (hX : (Rd m ρ).payload (barCell n) 0 d = X) {Q : PUnit → sProp 𝕄} :
    iprop(records m ρ K ∗ ow c (O + tallyAt (barCell n) () 1) ∗ dutyTok ER (barCell n) 0 d ∗ X)
      ⊢ iprop((ow c O -∗ Q ⟨⟩) -∗ runs c (semSignalWord n barS 1#32) Q) := by
  subst hX
  unfold ow
  simp only [semSignalWord, Prog.lift]
  iintro ⟨#HR, ⟨%W, HO⟩, Ht, HX⟩ Hk
  iapply (Rounds.wp_signal 𝒱₀ ER (Rd m ρ) (c : Thread nD τ) none (dst := (n : Thread nD τ)) (κ := K (n, none))
      (d := d) (by rw [duties_bar]; exact Finset.mem_univ _) ((amount_bar m ρ n d).trans (by decide)) () O rfl) $$ [HO Ht HX]
  · isplitr; · iapply (inv_at m ρ K (n, none)); iexact HR
    isplitl [HO]; · iexact HO
    isplitl [Ht]; · iexact Ht
    isplitl [HX]; · iexact HX
    iapply (reached_at m ρ K (n, none)); iexact HR
  iintro HO
  rw [wp_ret]
  imodintro
  iapply Hk
  iexists W
  iexact HO

/-! ## Transfers and copies -/

/-- A transfer from a slot of `c` to a slot of `n`: it leaves the credit to wait for it, and pays a debt. -/
theorem send (K : Dev nD × Cell → ℕ) (c n : Dev nD) (a a' : Fin 6) (r : Fin 8) (O : CellTallies nD τ sig Unit)
    (src dst : Memref sig .tc .vmem S96x1536 .bf16) (q : PosShare TreeShare) (v : S96x1536.Idx → Elt F .bf16)
    (sS sem : DmaSem sig) (hsS : sS = dsem a r) (hse : sem = dsem a' r) (hN : dst.view.dmaCredit = N)
    (hp : has c src q v ⊢ pay m ρ c a.val r) (hp' : has n dst fullShare v ⊢ pay m ρ n a'.val r)
    {hsc : (dst : Memref sig (Dev.tc n : Thread nD τ).2.kind .vmem S96x1536 .bf16).view.ref.isScScratch = false} {hsrc : src.view.WordExact} {hdst : dst.view.WordExact}
    {hsem : DmaTarget.Typed .vmem (.dma sem) (.remote (Dev.tc n : Thread nD τ) dst (.dma sS) hsc)} {Q : PUnit → sProp 𝕄} :
    iprop(records m ρ K ∗ has c src q v ∗ any n dst fullShare ∗ ow c (O + tallyAt (dCell n a' r) () N)
        ∗ dutyTok ER (dCell c a r) 0 false ∗ dutyTok ER (dCell n a' r) 0 false)
      ⊢ iprop(((cred (tallyAt (dCell c a r) () N) ∗ ow c O) -∗ Q ⟨⟩)
        -∗ runs c (Prog.lift (.enqueueDma src (.remote (Dev.tc n : Thread nD τ) dst (.dma sS) hsc) (.dma sem) hsrc hdst hsem)) Q) := by
  subst hsS
  subst hse
  unfold ow any has owns
  simp only [Prog.lift]
  iintro ⟨#HR, ⟨%f, %hf, Hs⟩, ⟨%w, %g, -, Hd⟩, ⟨%W, HO⟩, Ht, Ht'⟩ Hk
  iapply (Rounds.wp_send_pointsTo 𝒱₀ ER (Rd m ρ) (c : Thread nD τ) none (κ₁ := K (c, some (a, r))) (κ₂ := K (n, some (a', r)))
      (r₁ := 0) (r₂ := 0) (d₁ := false) (d₂ := false) (fs := f) (fd := g) (q := q)
      (by rw [duties_d]; exact Finset.mem_singleton_self _) (by rw [duties_d]; exact Finset.mem_singleton_self _)
      () () N (show dst.view.amount (.dma (dsem a' r)) = N from hN) (amount_d m ρ c a r false) (amount_d m ρ n a' r false) O rfl (W := W)
      (by rw [payload_d]; exact (has_intro c src q f v hf).trans hp)
      (by rw [payload_d]; exact (has_intro n dst fullShare _ v (by rw [View.read_write_univ, hf])).trans hp')) $$ [Hs Hd HO Ht Ht']
  · isplitr; · iapply (inv_at m ρ K (c, some (a, r))); iexact HR
    isplitr; · iapply (inv_at m ρ K (n, some (a', r))); iexact HR
    isplitl [Hs]; · iexact Hs
    isplitl [Hd]; · iexact Hd
    isplitl [HO]; · iexact HO
    isplitl [Ht]; · iexact Ht
    isplitr; · iapply (reached_at m ρ K (c, some (a, r))); iexact HR
    isplitl [Ht']; · iexact Ht'
    iapply (reached_at m ρ K (n, some (a', r))); iexact HR
  iintro ⟨Hc, HO⟩
  rw [wp_ret]
  imodintro
  iapply Hk
  isplitl [Hc]; · iexact Hc
  iexists W
  iexact HO

/-- A copy on device `c` leaves the credit to wait for it. -/
theorem copy (K : Dev nD × Cell → ℕ) (c : Dev nD) (a : Fin 6) (r : Fin 8)
    (src : Memref sig .tc .vmem S96x1536 .bf16) (dst : Memref sig .tc .hbm S96x1536 .bf16) (q : PosShare TreeShare) (v : S96x1536.Idx → Elt F .bf16)
    (sem : DmaSem sig) (hse : sem = dsem a r) (hN : dst.view.dmaCredit = N)
    (hp : iprop(has c dst fullShare v ∗ has c src q v) ⊢ pay m ρ c a.val r) {hsrc : src.view.WordExact} {hdst : dst.view.WordExact}
    {hsem : DmaTarget.Typed .vmem (.dma sem) (.here dst : DmaTarget nD τ sig (Proc.tc : Proc τ) .hbm S96x1536 .bf16)} {Q : PUnit → sProp 𝕄} :
    iprop(records m ρ K ∗ has c src q v ∗ any c dst fullShare ∗ dutyTok ER (dCell c a r) 0 false)
      ⊢ iprop((cred (tallyAt (dCell c a r) () N) -∗ Q ⟨⟩)
        -∗ runs c (Prog.lift (.enqueueDma src (.here dst) (.dma sem) hsrc hdst hsem)) Q) := by
  subst hse
  unfold any has owns
  simp only [Prog.lift]
  iintro ⟨#HR, ⟨%f, %hf, Hs⟩, ⟨%w, %g, -, Hd⟩, Ht⟩ Hk
  iapply (Rounds.wp_copy_pointsTo 𝒱₀ ER (Rd m ρ) (c : Thread nD τ) none (κ := K (c, some (a, r))) (r := 0) (d := false) (fs := f) (fd := g) (q := q)
      (by rw [duties_d]; exact Finset.mem_singleton_self _) () N (show dst.view.amount (.dma (dsem a r)) = N from hN) (amount_d m ρ c a r false)
      (by rw [payload_d]; exact (BIClass.sep_mono (has_intro c dst fullShare _ v (by rw [View.read_write_univ, hf])) (has_intro c src q f v hf)).trans hp)) $$ [Hs Hd Ht]
  · isplitr; · iapply (inv_at m ρ K (c, some (a, r))); iexact HR
    isplitl [Hs]; · iexact Hs
    isplitl [Hd]; · iexact Hd
    isplitl [Ht]; · iexact Ht
    iapply (reached_at m ρ K (c, some (a, r))); iexact HR
  iintro Hc
  rw [wp_ret]
  imodintro
  iapply Hk
  iexact Hc

end Cert.KernelIdeal.Mesh

end

end
-- ==== Proof.KernelIdeal.Phases.lean ====
module

public import proofs.«01_k».proof.Proof.KernelIdeal.Steps

/-!
# The program's phases

The program's pieces at a chunk, from the steps, and its loops, by induction on the list of the chunks.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the chunks -/

/-- For the listed chunks: the credit to wait on device `c`'s cells of kind `a`; its positions there; the right to pay
    them; their counters at zero; a buffer's slots. -/
abbrev creds (c : Dev nD) (a : Fin 6) (l : List (Fin 8)) : sProp 𝕄 := bigSepL l fun r => cred (tallyAt (dCell c a r) () N)
abbrev ats (c : Dev nD) (a : Fin 6) (l : List (Fin 8)) : sProp 𝕄 := bigSepL l fun r => atPos ER (dCell c a r) 0 ∅ 0
abbrev toks (c : Dev nD) (a : Fin 6) (l : List (Fin 8)) : sProp 𝕄 := bigSepL l fun r => dutyTok ER (dCell c a r) 0 false
abbrev zeros (c : Dev nD) (a : Fin 6) (l : List (Fin 8)) : sProp 𝕄 := bigSepL l fun r => semVal (dCell c a r) 0
abbrev slots (c : Dev nD) (M : Memref sig .tc .vmem S8x96x1536 .bf16) (q : PosShare TreeShare) (l : List (Fin 8)) : sProp 𝕄 :=
  bigSepL l fun r => any c (slot M r) q
/-- The rows of the result that the listed chunks of the own half, and of the other, are copied to. -/
abbrev ownAny (c : Dev nD) (l : List (Fin 8)) : sProp 𝕄 := bigSepL l fun r => any c (ownRows c r) fullShare
/-- The listed chunks of the other half, with any contents. -/
abbrev otherAny (c : Dev nD) (l : List (Fin 8)) : sProp 𝕄 := bigSepL l fun r => any c (otherRows c r) fullShare
/-- The staged block of `a`. -/
def aPts (c : Dev nD) : sProp 𝕄 := (c : Thread nD τ).loc cc0_stg0_0 ↦{fullShare} aStg m ρ c
/-- The staged block of `b`. -/
def bPts (c : Dev nD) : sProp 𝕄 := (c : Thread nD τ).loc cc0_stg1_0 ↦{fullShare} bStg m ρ c

omit [FloatOps F] in
/-- Contents forgotten. -/
theorem any_of (c : Dev nD) {sp : Space} {s : Shape} {e : EltTy} (M : Memref sig .tc sp s e) (q : PosShare TreeShare) (v : s.Idx → Elt F e) :
    (has c M q v : sProp 𝕄) ⊢ any c M q := by
  unfold any
  iintro H
  iexists v
  iexact H

omit [FloatOps F] in
/-- Two pairs, paired the other way. -/
theorem regroup_pairs (W X Y Z : sProp 𝕄) : iprop((W ∗ X) ∗ Y ∗ Z) ⊣⊢ iprop((W ∗ Y) ∗ X ∗ Z) := by
  constructor
  · iintro ⟨⟨Hw, Hx⟩, Hy, Hz⟩
    isplitl [Hw Hy]
    · isplitl [Hw] <;> iassumption
    · isplitl [Hx] <;> iassumption
  · iintro ⟨⟨Hw, Hy⟩, Hx, Hz⟩
    isplitl [Hw Hx]
    · isplitl [Hw] <;> iassumption
    · isplitl [Hy] <;> iassumption
omit [FloatOps F] in
/-- A family of pairs is a pair of families. -/
theorem listed_sep (l : List (Fin 8)) (A B : Fin 8 → sProp 𝕄) :
    bigSepL l (fun r => iprop(A r ∗ B r)) = iprop(bigSepL l A ∗ bigSepL l B) := by
  induction l with
  | nil => exact (equiv_iff.mp BI.emp_sep).symm
  | cons r l ih =>
    simp only [bigSepL_cons', ih]
    have h := regroup_pairs (A r) (B r) (bigSepL l A) (bigSepL l B)
    exact equiv_iff.mp ⟨h.1, h.2⟩

/-! ## One chunk -/

/-- Multiplying chunk `r` gives its product and leaves the product rounded in its slot. -/
theorem compute_run (c : Dev nD) (r : Fin 8) {Q : FVec F S96x1536 .f32 → sProp 𝕄} :
    iprop(aPts m ρ c ∗ any c (slot xsM r) fullShare)
      ⊢ iprop(((aPts m ρ c ∗ has c (slot xsM r) fullShare (sent m ρ c r)) -∗ Q (prod m ρ c r))
        -∗ runs c (compute c (bStg m ρ c) r) Q) := by
  unfold aPts any compute
  simp only [Prog.lift, Prog.bind_op, Prog.bind_ret, Prog.pure_eq_ret]
  iintro ⟨Ha, ⟨%v, Hs⟩⟩ Hk
  iapply (wp_load 𝒱₀ (c : Thread nD τ) none Set.univ (m := aM) (S := Finset.univ) (f := aStg m ρ c) (Finset.subset_univ _)) $$ [Ha]
  · iexact Ha
  iintro Ha
  iapply (slot_load c xsM r fullShare v) $$ [Hs]
  · iexact Hs
  iintro Hs
  iapply (slot_store c xsM r v) $$ [Hs]
  · iexact Hs
  iintro Hs
  unfold runs
  rw [wp_ret]
  imodintro
  have hp : part (bStg m ρ c) (View.readAt (Elt F) aM.view (aRect c r).toLoadRect (aStg m ρ c)) = prod m ρ c r := rfl
  rw [hp]
  iapply Hk
  isplitl [Ha]; · iexact Ha
  unfold partSlot
  rw [shapeCast_shapeCast]
  iexact Hs

/-- Starting the transfer of chunk `r` to the first neighbour pays the debt for it. -/
theorem sendX_run (K : Dev nD × Cell → ℕ) (c : Dev nD) (r : Fin 8) (l : List (Fin 8)) (O : CellTallies nD τ sig Unit) {Q : PUnit → sProp 𝕄} :
    iprop(records m ρ K ∗ has c (slot xsM r) fullShare (sent m ρ c r) ∗ any (xp c) (slot xrM r) fullShare ∗ ow c (O + OX c (r :: l))
        ∗ dutyTok ER (dCell c 0 r) 0 false ∗ dutyTok ER (dCell (xp c) 1 r) 0 false)
      ⊢ iprop(((cred (tallyAt (dCell c 0 r) () N) ∗ ow c (O + OX c l)) -∗ Q ⟨⟩) -∗ runs c (sendX c r) Q) := by
  rw [show O + OX c (r :: l) = (O + OX c l) + tallyAt (dCell (xp c) 1 r) () N from (add_assoc _ _ _).symm]
  exact send m ρ K c (xp c) 0 1 r (O + OX c l) (slot xsM r) (slot xrM r) fullShare (sent m ρ c r) _ _ (sem_xs r) (sem_xr r) (N_xr r)
    (any_of c _ _ _) (Entails.of_eq (by show _ = has (xp c) (slot xrM r) fullShare (sent m ρ (xp (xp c)) r); rw [xp_xp]))

/-- Adding the neighbour's product to the own one leaves the sum rounded in its slot. -/
theorem addUp_run (c : Dev nD) (r : Fin 8) {Q : PUnit → sProp 𝕄} :
    iprop(has c (slot xrM r) fullShare (sent m ρ (xp c) r) ∗ any c (slot ysM r) fullShare)
      ⊢ iprop(((has c (slot xrM r) fullShare (sent m ρ (xp c) r) ∗ has c (slot ysM r) fullShare (summed m ρ c r)) -∗ Q ⟨⟩)
        -∗ runs c (addUp (prod m ρ c r) r) Q) := by
  unfold any addUp
  simp only [Prog.lift, Prog.bind_op, Prog.bind_ret, Prog.pure_eq_ret]
  iintro ⟨Hx, ⟨%v, Hs⟩⟩ Hk
  iapply (slot_load c xrM r fullShare (sent m ρ (xp c) r)) $$ [Hx]
  · iexact Hx
  iintro Hx
  iapply (slot_load c ysM r fullShare v) $$ [Hs]
  · iexact Hs
  iintro Hs
  iapply (slot_store c ysM r v) $$ [Hs]
  · iexact Hs
  iintro Hs
  unfold runs
  rw [wp_ret]
  imodintro
  iapply Hk
  isplitl [Hx]; · iexact Hx
  have hv : shapeCast S96x1536 (sumSlot (prod m ρ c r) (shapeCast S1x96x1536 (sent m ρ (xp c) r) shapeCasts_S96x1536_S1x96x1536)) shapeCasts_S1x96x1536_S96x1536
      = summed m ρ c r := by
    unfold summed
    dsimp only [sumSlot, k0_pay19]
    rw [shapeCast_shapeCast, shapeCast_shapeCast]
  rw [← hv]
  iexact Hs

/-- Starting the transfer of chunk `r` to the second neighbour, from half of the slot's share, pays the debt for it. -/
theorem sendY_run (K : Dev nD × Cell → ℕ) (c : Dev nD) (r : Fin 8) (l : List (Fin 8)) {Q : PUnit → sProp 𝕄} :
    iprop(records m ρ K ∗ has c (slot ysM r) fullShare.left (summed m ρ c r) ∗ any (yp c) (slot yrM r) fullShare ∗ ow c (OY c (r :: l))
        ∗ dutyTok ER (dCell c 2 r) 0 false ∗ dutyTok ER (dCell (yp c) 3 r) 0 false)
      ⊢ iprop(((cred (tallyAt (dCell c 2 r) () N) ∗ ow c (OY c l)) -∗ Q ⟨⟩) -∗ runs c (sendY c r) Q) :=
  send m ρ K c (yp c) 2 3 r (OY c l) (slot ysM r) (slot yrM r) fullShare.left (summed m ρ c r) _ _ (sem_ys r) (sem_yr r) (N_yr r)
    (any_of c _ _ _) (Entails.of_eq (by show _ = has (yp c) (slot yrM r) fullShare (summed m ρ (yp (yp c)) r); rw [yp_yp]))

/-- Starting the copy of chunk `r` into the own half of the result, from the other half of the slot's share; -/
theorem copyOwn_run (K : Dev nD × Cell → ℕ) (c : Dev nD) (r : Fin 8) {Q : PUnit → sProp 𝕄} :
    iprop(records m ρ K ∗ has c (slot ysM r) fullShare.right (summed m ρ c r) ∗ any c (ownRows c r) fullShare ∗ dutyTok ER (dCell c 4 r) 0 false)
      ⊢ iprop((cred (tallyAt (dCell c 4 r) () N) -∗ Q ⟨⟩) -∗ runs c (copyOwn c r) Q) :=
  copy m ρ K c 4 r (slot ysM r) (ownRows c r) fullShare.right (summed m ρ c r) _ (sem_own r) (N_own c r)
    (BIClass.sep_mono (BI.Entails.refl _) (any_of c _ _ _))

/-- into the other half. -/
theorem copyOther_run (K : Dev nD × Cell → ℕ) (c : Dev nD) (r : Fin 8) {Q : PUnit → sProp 𝕄} :
    iprop(records m ρ K ∗ has c (slot yrM r) fullShare (summed m ρ (yp c) r) ∗ any c (otherRows c r) fullShare ∗ dutyTok ER (dCell c 5 r) 0 false)
      ⊢ iprop((cred (tallyAt (dCell c 5 r) () N) -∗ Q ⟨⟩) -∗ runs c (copyOther c r) Q) :=
  copy m ρ K c 5 r (slot yrM r) (otherRows c r) fullShare (summed m ρ (yp c) r) _ (sem_other r) (N_other c r)
    (BIClass.sep_mono (BI.Entails.refl _) (any_of c _ _ _))

/-- What the two receives bring. -/
theorem pay_recvX (c : Dev nD) (r : Fin 8) : pay m ρ c (1 : Fin 6).val r = has c (slot xrM r) fullShare (sent m ρ (xp c) r) := rfl
/-- What the second receive brings. -/
theorem pay_recvY (c : Dev nD) (r : Fin 8) : pay m ρ c (3 : Fin 6).val r = has c (slot yrM r) fullShare (summed m ρ (yp c) r) := rfl

/-! ## The loops -/

/-- Multiplying and sending the listed chunks. -/
theorem phase1_run (K : Dev nD × Cell → ℕ) (c : Dev nD) (O : CellTallies nD τ sig Unit) (l : List (Fin 8)) {Q : List (FVec F S96x1536 .f32) → sProp 𝕄} :
    iprop(records m ρ K ∗ aPts m ρ c ∗ slots c xsM fullShare l ∗ slots (xp c) xrM fullShare l ∗ toks c 0 l ∗ toks (xp c) 1 l ∗ ow c (O + OX c l))
      ⊢ iprop(((aPts m ρ c ∗ creds c 0 l ∗ ow c O) -∗ Q (l.map (prod m ρ c))) -∗ runs c (phase1 c (bStg m ρ c) l) Q) := by
  induction l generalizing Q with
  | nil =>
    simp only [bigSepL_nil, phase1, Prog.pure_eq_ret, wp_ret, OX, add_zero, List.map_nil]
    iintro ⟨#HR, Ha, -, -, -, -, HO⟩ Hk
    imodintro
    iapply Hk
    isplitl [Ha]; · iexact Ha
    isplitr; · iempintro
    iexact HO
  | cons r l ih =>
    simp only [bigSepL_cons', phase1, wp_bind, List.map_cons, Prog.pure_eq_ret, wp_ret]
    iintro ⟨#HR, Ha, ⟨Hs, Hss⟩, ⟨Hn, Hns⟩, ⟨Ht, Hts⟩, ⟨Hu, Hus⟩, HO⟩ Hk
    iapply (compute_run m ρ c r) $$ [Ha Hs]
    · isplitl [Ha]; · iexact Ha
      iexact Hs
    iintro ⟨Ha, Hs⟩
    iapply (sendX_run m ρ K c r l O) $$ [Hs Hn HO Ht Hu]
    · isplitr; · iexact HR
      isplitl [Hs]; · iexact Hs
      isplitl [Hn]; · iexact Hn
      isplitl [HO]; · iexact HO
      isplitl [Ht]; · iexact Ht
      iexact Hu
    iintro ⟨Hc, HO⟩
    iapply ih $$ [Ha Hss Hns Hts Hus HO]
    · isplitr; · iexact HR
      isplitl [Ha]; · iexact Ha
      isplitl [Hss]; · iexact Hss
      isplitl [Hns]; · iexact Hns
      isplitl [Hts]; · iexact Hts
      isplitl [Hus]; · iexact Hus
      iexact HO
    iintro ⟨Ha, Hcs, HO⟩
    imodintro
    iapply Hk
    isplitl [Ha]; · iexact Ha
    isplitl [Hc Hcs]
    · isplitl [Hc]; · iexact Hc
      iexact Hcs
    iexact HO

/-- Receiving, adding, sending on and copying the listed chunks. -/
theorem phase2_run (K : Dev nD × Cell → ℕ) (c : Dev nD) (l : List (Fin 8)) {Q : PUnit → sProp 𝕄} :
    iprop(records m ρ K ∗ levAts L lv ∗ creds c 1 l ∗ ats c 1 l ∗ slots c ysM fullShare l ∗ slots (yp c) yrM fullShare l ∗ ownAny c l
        ∗ toks c 2 l ∗ toks (yp c) 3 l ∗ toks c 4 l ∗ ow c (OY c l))
      ⊢ iprop(((zeros c 1 l ∗ slots c xrM fullShare l ∗ creds c 2 l ∗ creds c 4 l ∗ ow c 0) -∗ Q ⟨⟩)
        -∗ runs c (phase2 c l (l.map (prod m ρ c))) Q) := by
  induction l generalizing Q with
  | nil =>
    simp only [bigSepL_nil, phase2, Prog.pure_eq_ret, wp_ret, OY, List.map_nil]
    iintro ⟨#HR, #Hlev, -, -, -, -, -, -, -, -, HO⟩ Hk
    imodintro
    iapply Hk
    isplitr; · iempintro
    isplitr; · iempintro
    isplitr; · iempintro
    isplitr; · iempintro
    iexact HO
  | cons r l ih =>
    simp only [bigSepL_cons', phase2, wp_bind, List.map_cons]
    iintro ⟨#HR, #Hlev, ⟨Hc, Hcs⟩, ⟨Hat, Hats⟩, ⟨Hs, Hss⟩, ⟨Hn, Hns⟩, ⟨Ho, Hos⟩, ⟨Ht, Hts⟩, ⟨Hu, Hus⟩, ⟨Hv, Hvs⟩, HO⟩ Hk
    unfold recvX
    iapply (wait_d m ρ K c 1 r (OY c (r :: l)) (mayWait_recvX c r (r :: l)) _ (sem_xr r) _ _ (N_xr r)) $$ [Hc HO Hat]
    · isplitr; · iexact HR
      isplitr; · iexact Hlev
      isplitl [Hc]; · iexact Hc
      isplitl [HO]; · iexact HO
      iexact Hat
    iintro ⟨HO, Hz, Hx⟩
    ihave Hx := (Entails.of_eq (pay_recvX m ρ c r)) $$ Hx
    iapply (addUp_run m ρ c r) $$ [Hx Hs]
    · isplitl [Hx]; · iexact Hx
      iexact Hs
    iintro ⟨Hx, Hs⟩
    ihave H2 := (owns_halves (c := (c : Thread nD τ)) (m := slot ysM r) (q := fullShare) (summed m ρ c r)).1 $$ Hs
    icases H2 with ⟨Hl, Hr⟩
    iapply (sendY_run m ρ K c r l) $$ [Hl Hn HO Ht Hu]
    · isplitr; · iexact HR
      isplitl [Hl]; · iexact Hl
      isplitl [Hn]; · iexact Hn
      isplitl [HO]; · iexact HO
      isplitl [Ht]; · iexact Ht
      iexact Hu
    iintro ⟨Hc2, HO⟩
    iapply (copyOwn_run m ρ K c r) $$ [Hr Ho Hv]
    · isplitr; · iexact HR
      isplitl [Hr]; · iexact Hr
      isplitl [Ho]; · iexact Ho
      iexact Hv
    iintro Hc4
    iapply ih $$ [Hcs Hats Hss Hns Hos Hts Hus Hvs HO]
    · isplitr; · iexact HR
      isplitr; · iexact Hlev
      isplitl [Hcs]; · iexact Hcs
      isplitl [Hats]; · iexact Hats
      isplitl [Hss]; · iexact Hss
      isplitl [Hns]; · iexact Hns
      isplitl [Hos]; · iexact Hos
      isplitl [Hts]; · iexact Hts
      isplitl [Hus]; · iexact Hus
      isplitl [Hvs]; · iexact Hvs
      iexact HO
    iintro ⟨Hzs, Hxs, Hc2s, Hc4s, HO⟩
    iapply Hk
    isplitl [Hz Hzs]
    · isplitl [Hz]; · iexact Hz
      iexact Hzs
    isplitl [Hx Hxs]
    · isplitl [Hx]; · iapply (any_of c (slot xrM r) fullShare _); iexact Hx
      iexact Hxs
    isplitl [Hc2 Hc2s]
    · isplitl [Hc2]; · iexact Hc2
      iexact Hc2s
    isplitl [Hc4 Hc4s]
    · isplitl [Hc4]; · iexact Hc4
      iexact Hc4s
    iexact HO

/-- One thing done to each listed chunk, by what it does to one. -/
theorem each_run (K : Dev nD × Cell → ℕ) (c : Dev nD) (w : Fin 8 → P F PUnit) (A B : Fin 8 → sProp 𝕄)
    (h : ∀ (r : Fin 8) (Q : PUnit → sProp 𝕄),
      iprop(records m ρ K ∗ levAts L lv ∗ A r ∗ ow c 0) ⊢ iprop(((B r ∗ ow c 0) -∗ Q ⟨⟩) -∗ runs c (w r) Q))
    (l : List (Fin 8)) {Q : PUnit → sProp 𝕄} :
    iprop(records m ρ K ∗ levAts L lv ∗ bigSepL l A ∗ ow c 0) ⊢ iprop(((bigSepL l B ∗ ow c 0) -∗ Q ⟨⟩) -∗ runs c (each w l) Q) := by
  induction l generalizing Q with
  | nil =>
    simp only [bigSepL_nil, each, Prog.pure_eq_ret, wp_ret]
    iintro ⟨-, -, -, HO⟩ Hk
    imodintro
    iapply Hk
    isplitr; · iempintro
    iexact HO
  | cons r l ih =>
    simp only [bigSepL_cons', each, wp_bind]
    iintro ⟨#HR, #Hlev, ⟨Ha, Has⟩, HO⟩ Hk
    iapply (h r _) $$ [Ha HO]
    · isplitr; · iexact HR
      isplitr; · iexact Hlev
      isplitl [Ha]; · iexact Ha
      iexact HO
    iintro ⟨Hb, HO⟩
    iapply ih $$ [Has HO]
    · isplitr; · iexact HR
      isplitr; · iexact Hlev
      isplitl [Has]; · iexact Has
      iexact HO
    iintro ⟨Hbs, HO⟩
    iapply Hk
    isplitl [Hb Hbs]
    · isplitl [Hb]; · iexact Hb
      iexact Hbs
    iexact HO

/-- A chunk of the other half arrives and its copy starts. -/
theorem phase3_run (K : Dev nD × Cell → ℕ) (c : Dev nD) (r : Fin 8) (Q : PUnit → sProp 𝕄) :
    iprop(records m ρ K ∗ levAts L lv
        ∗ (cred (tallyAt (dCell c 3 r) () N) ∗ atPos ER (dCell c 3 r) 0 ∅ 0 ∗ any c (otherRows c r) fullShare ∗ dutyTok ER (dCell c 5 r) 0 false) ∗ ow c 0)
      ⊢ iprop((((semVal (dCell c 3 r) 0 ∗ cred (tallyAt (dCell c 5 r) () N)) ∗ ow c 0) -∗ Q ⟨⟩) -∗ runs c (phase3 c r) Q) := by
  unfold phase3
  simp only [wp_bind]
  iintro ⟨#HR, #Hlev, ⟨Hc, Hat, Ho, Ht⟩, HO⟩ Hk
  unfold recvY
  iapply (wait_d m ρ K c 3 r 0 (mayWait_zero c _) _ (sem_yr r) _ _ (N_yr r)) $$ [Hc HO Hat]
  · isplitr; · iexact HR
    isplitr; · iexact Hlev
    isplitl [Hc]; · iexact Hc
    isplitl [HO]; · iexact HO
    iexact Hat
  iintro ⟨HO, Hz, Hx⟩
  ihave Hx := (Entails.of_eq (pay_recvY m ρ c r)) $$ Hx
  iapply (copyOther_run m ρ K c r) $$ [Hx Ho Ht]
  · isplitr; · iexact HR
    isplitl [Hx]; · iexact Hx
    isplitl [Ho]; · iexact Ho
    iexact Ht
  iintro Hc
  iapply Hk
  isplitl [Hz Hc]
  · isplitl [Hz]; · iexact Hz
    iexact Hc
  iexact HO

/-- A wait at the end of the program. -/
theorem last_run (K : Dev nD × Cell → ℕ) (c : Dev nD) (a : Fin 6) (r : Fin 8)
    {sp sp' : Space} {s s' : Shape} {e e' : EltTy} (sem : DmaSem sig) (hsem : sem = dsem a r) (src : Memref sig .tc sp' s' e') (dst : Memref sig .tc sp s e)
    (hN : dst.view.dmaCredit = N) {h₁ : src.view.WordExact} {h₂ : dst.view.WordExact} (Q : PUnit → sProp 𝕄) :
    iprop(records m ρ K ∗ levAts L lv ∗ (cred (tallyAt (dCell c a r) () N) ∗ atPos ER (dCell c a r) 0 ∅ 0) ∗ ow c 0)
      ⊢ iprop((((semVal (dCell c a r) 0 ∗ pay m ρ c a.val r) ∗ ow c 0) -∗ Q ⟨⟩) -∗ runs c (Prog.lift (.waitDma2 sem src dst h₁ h₂)) Q) := by
  iintro ⟨#HR, #Hlev, ⟨Hc, Hat⟩, HO⟩ Hk
  iapply (wait_d m ρ K c a r 0 (mayWait_zero c _) sem hsem src dst hN) $$ [Hc HO Hat]
  · isplitr; · iexact HR
    isplitr; · iexact Hlev
    isplitl [Hc]; · iexact Hc
    isplitl [HO]; · iexact HO
    iexact Hat
  iintro ⟨HO, Hz, Hp⟩
  iapply Hk
  isplitl [Hz Hp]
  · isplitl [Hz]; · iexact Hz
    iexact Hp
  iexact HO

/-- The two waits at the end for a chunk's transfers. -/
theorem waitXY_run (K : Dev nD × Cell → ℕ) (c : Dev nD) (r : Fin 8) (Q : PUnit → sProp 𝕄) :
    iprop(records m ρ K ∗ levAts L lv
        ∗ ((cred (tallyAt (dCell c 0 r) () N) ∗ atPos ER (dCell c 0 r) 0 ∅ 0) ∗ (cred (tallyAt (dCell c 2 r) () N) ∗ atPos ER (dCell c 2 r) 0 ∅ 0)) ∗ ow c 0)
      ⊢ iprop(((((semVal (dCell c 0 r) 0 ∗ pay m ρ c 0 r) ∗ (semVal (dCell c 2 r) 0 ∗ pay m ρ c 2 r)) ∗ ow c 0) -∗ Q ⟨⟩) -∗ runs c (waitXY r) Q) := by
  unfold waitXY
  simp only [wp_bind]
  iintro ⟨#HR, #Hlev, ⟨H0, H2⟩, HO⟩ Hk
  unfold waitX
  iapply (last_run m ρ K c 0 r _ (sem_xs r) _ _ (N_xs r) _) $$ [H0 HO]
  · isplitr; · iexact HR
    isplitr; · iexact Hlev
    isplitl [H0]; · iexact H0
    iexact HO
  iintro ⟨H0, HO⟩
  unfold waitY
  iapply (last_run m ρ K c 2 r _ (sem_ys r) _ _ (N_ys r) _) $$ [H2 HO]
  · isplitr; · iexact HR
    isplitr; · iexact Hlev
    isplitl [H2]; · iexact H2
    iexact HO
  iintro ⟨H2, HO⟩
  iapply Hk
  isplitl [H0 H2]
  · isplitl [H0]; · iexact H0
    iexact H2
  iexact HO

end Cert.KernelIdeal.Mesh

end

end
-- ==== Proof.KernelIdeal.Body.lean ====
module

public import proofs.«01_k».proof.Proof.KernelIdeal.Phases

/-!
# The whole program

From what a device holds at the start — its two staged blocks, its scratch slots, the rows of its result,
and its part of the ghost state — the program runs to the end and leaves every row of the result with its
sum.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The rows of device `c`'s result, each chunk's holding its sum. -/
abbrev ownDone (c : Dev nD) (l : List (Fin 8)) : sProp 𝕄 := bigSepL l fun r => has c (ownRows c r) fullShare (summed m ρ c r)
/-- The listed chunks of the other half, holding the y neighbour's sums. -/
abbrev otherDone (c : Dev nD) (l : List (Fin 8)) : sProp 𝕄 := bigSepL l fun r => has c (otherRows c r) fullShare (summed m ρ (yp c) r)

/-- What the copies leave. -/
theorem pays_own (c : Dev nD) : bigSepL chunks (pay m ρ c (4 : Fin 6).val) = iprop(ownDone m ρ c chunks ∗ slots c ysM fullShare.right chunks) :=
  listed_sep _ _ _
/-- What the copies to the other half leave: its rows, and the slots that they were copied from. -/
theorem pays_other (c : Dev nD) : bigSepL chunks (pay m ρ c (5 : Fin 6).val) = iprop(otherDone m ρ c chunks ∗ slots c yrM fullShare chunks) :=
  listed_sep _ _ _

/-- The tokens for what device `c` pays. -/
def payToks (c : Dev nD) : sProp 𝕄 :=
  iprop(dutyTok ER (barCell (xp c)) 0 false ∗ dutyTok ER (barCell (yp c)) 0 true
    ∗ toks c 0 chunks ∗ toks (xp c) 1 chunks ∗ toks c 2 chunks ∗ toks (yp c) 3 chunks ∗ toks c 4 chunks ∗ toks c 5 chunks)
/-- Its positions at its own cells. -/
def positions (c : Dev nD) : sProp 𝕄 :=
  iprop(atPos ER (barCell c) 0 ∅ 0 ∗ ats c 0 chunks ∗ ats c 1 chunks ∗ ats c 2 chunks ∗ ats c 3 chunks ∗ ats c 4 chunks ∗ ats c 5 chunks)
/-- Its counters, all at zero. -/
def allZero (c : Dev nD) : sProp 𝕄 :=
  iprop(semVal (barCell c) 0 ∗ zeros c 0 chunks ∗ zeros c 1 chunks ∗ zeros c 2 chunks ∗ zeros c 3 chunks ∗ zeros c 4 chunks ∗ zeros c 5 chunks)
/-- Its scratch slots. -/
def scratch (c : Dev nD) : sProp 𝕄 :=
  iprop(slots c xsM fullShare chunks ∗ slots c xrM fullShare chunks ∗ slots c ysM fullShare chunks ∗ slots c yrM fullShare chunks)
/-- The credit for what its neighbours owe it. -/
def credit (c : Dev nD) : sProp 𝕄 := iprop(cred (tallyAt (barCell c) () 2) ∗ creds c 1 chunks ∗ creds c 3 chunks)

omit [FloatOps F] in
/-- Two half shares of the listed slots are the whole share of them. -/
theorem slots_join (c : Dev nD) (M : Memref sig .tc .vmem S8x96x1536 .bf16) (l : List (Fin 8)) :
    iprop(slots c M fullShare.left l ∗ slots c M fullShare.right l) ⊢ (slots c M fullShare l : sProp 𝕄) := by
  rw [← listed_sep]
  exact bigSepL_mono fun r _ => any_join c (slot M r)

omit [FloatOps F] in
/-- The first chunk taken out of a family. -/
theorem slots_first (c : Dev nD) (M : Memref sig .tc .vmem S8x96x1536 .bf16) :
    (slots c M fullShare chunks : sProp 𝕄) = iprop(any c (slot M 0) fullShare ∗ slots c M fullShare rest) := bigSepL_cons' _ _ _
omit [FloatOps F] in
/-- The rights to pay, the first chunk apart; -/
theorem toks_first (c : Dev nD) (a : Fin 6) :
    (toks c a chunks : sProp 𝕄) = iprop(dutyTok ER (dCell c a 0) 0 false ∗ toks c a rest) := bigSepL_cons' _ _ _
omit [FloatOps F] in
/-- and the credit, the first chunk apart. -/
theorem creds_first (c : Dev nD) (a : Fin 6) :
    (creds c a chunks : sProp 𝕄) = iprop(cred (tallyAt (dCell c a 0) () N) ∗ creds c a rest) := bigSepL_cons' _ _ _

omit [FloatOps F] in
/-- A pair of zeros is zero everywhere. -/
theorem hz : (![0, 0] : Fin 2 → Nat) = fun _ => 0 := funext fun a => by fin_cases a <;> rfl

/-- The load of the whole staged block of `b`. -/
theorem load_b (c : Dev nD) {hl : bM.view.LoadsAt (Rect.unit (s := S768x1536) ![0, 0] S768x1536.size inb_S768x1536_S768x1536_0_0).toLoadRect} {Q : Vec F S768x1536 .bf16 → sProp 𝕄} :
    bPts m ρ c ⊢ iprop((bPts m ρ c -∗ Q (bStg m ρ c))
      -∗ runs c (Prog.lift (.load bM (Rect.unit (s := S768x1536) ![0, 0] S768x1536.size inb_S768x1536_S768x1536_0_0).toLoadRect hl)) Q) := by
  unfold bPts
  simp only [Prog.lift]
  iintro Hb Hk
  iapply (wp_load 𝒱₀ (c : Thread nD τ) none Set.univ (m := bM) (S := Finset.univ) (f := bStg m ρ c) (Finset.subset_univ _)) $$ [Hb]
  · iexact Hb
  iintro Hb
  have hv : bM.view.readAt (Elt F) (Rect.unit (s := S768x1536) ![0, 0] S768x1536.size inb_S768x1536_S768x1536_0_0).toLoadRect (bStg m ρ c) = bStg m ρ c :=
    Memref.readAt_unit_zero (Elt F) cc0_stg1_0 hz _ _
  rw [hv]
  rw [wp_ret]
  imodintro
  iapply Hk
  iexact Hb

/-- The program. -/
theorem body_run (K : Dev nD × Cell → ℕ) (c : Dev nD) (Q : PUnit → sProp 𝕄) :
    iprop((records m ρ K ∗ levAts L lv ∗ ow c (O₀ c) ∗ aPts m ρ c ∗ bPts m ρ c ∗ scratch c ∗ ownAny c chunks ∗ otherAny c chunks
          ∗ credit c ∗ positions c ∗ payToks c)
        ∗ ((ow c 0 ∗ aPts m ρ c ∗ bPts m ρ c ∗ scratch c ∗ ownDone m ρ c chunks ∗ otherDone m ρ c chunks ∗ allZero c) -∗ Q ⟨⟩))
      ⊢ runs c body Q := by
  have hbody : (body : P F PUnit) = .op .deviceId (fun d => do
      semSignalWord (xdev d) barS 1#32
      semSignalWord (ydev d) barS 1#32
      let b : Vec F S768x1536 .bf16 ← Prog.lift (.load bM (Rect.unit (s := S768x1536) ![0, 0] S768x1536.size inb_S768x1536_S768x1536_0_0).toLoadRect (View.loadsAt_vmem h_S768x1536))
      let p ← compute d b 0
      semWaitWord barS 2#32
      sendX d 0
      let ps ← phase1 d b rest
      phase2 d chunks (p :: ps)
      each (phase3 d) chunks
      each (waitOwn d) chunks
      each (waitOther d) chunks
      each waitXY chunks) := rfl
  rw [hbody]
  unfold runs
  rw [wp_deviceId]
  simp only [wp_bind]
  unfold scratch credit positions payToks
  iintro ⟨⟨#HR, #Hlev, HO, Ha, Hb, ⟨Sxs, Sxr, Sys, Syr⟩, Own, Oth, ⟨Cb, C1, C3⟩, ⟨Ab, A0, A1, A2, A3, A4, A5⟩, ⟨Tx, Ty, T0, T1, T2, T3, T4, T5⟩⟩, Hk⟩
  -- both neighbours get the slots they will write to
  iapply (signal_bar m ρ K c (xp c) false (O₁ c) (slots c xrM fullShare chunks) (by rw [payload_bar_false, xp_xp]; rfl)) $$ [HO Tx Sxr]
  · isplitr; · iexact HR
    isplitl [HO]; · iexact HO
    isplitl [Tx]; · iexact Tx
    iexact Sxr
  iintro HO
  iapply (signal_bar m ρ K c (yp c) true (O₂ c) (slots c yrM fullShare chunks) (by rw [payload_bar_true, yp_yp]; rfl)) $$ [HO Ty Syr]
  · isplitr; · iexact HR
    isplitl [HO]; · iexact HO
    isplitl [Ty]; · iexact Ty
    iexact Syr
  iintro HO
  iapply (load_b m ρ c) $$ [Hb]
  · iexact Hb
  iintro Hb
  -- the first chunk is multiplied before the neighbours are known to be ready
  ihave Sxs := (Entails.of_eq (slots_first c xsM)) $$ Sxs
  icases Sxs with ⟨S0, Sxs⟩
  iapply (compute_run m ρ c 0) $$ [Ha S0]
  · isplitl [Ha]; · iexact Ha
    iexact S0
  iintro ⟨Ha, S0⟩
  iapply (wait_bar m ρ K c) $$ [Cb HO Ab]
  · isplitr; · iexact HR
    isplitr; · iexact Hlev
    isplitl [Cb]; · iexact Cb
    isplitl [HO]; · iexact HO
    iexact Ab
  iintro ⟨HO, Zb, Nx, Ny⟩
  ihave Nx := (show landX (xp c) ⊢ iprop(any (xp c) (slot xrM 0) fullShare ∗ slots (xp c) xrM fullShare rest) from Entails.of_eq (slots_first (xp c) xrM)) $$ Nx
  icases Nx with ⟨N0, Nx⟩
  ihave T0 := (Entails.of_eq (toks_first c 0)) $$ T0
  icases T0 with ⟨T00, T0⟩
  ihave T1 := (Entails.of_eq (toks_first (xp c) 1)) $$ T1
  icases T1 with ⟨T10, T1⟩
  iapply (sendX_run m ρ K c 0 rest (OY c chunks)) $$ [S0 N0 HO T00 T10]
  · isplitr; · iexact HR
    isplitl [S0]; · iexact S0
    isplitl [N0]; · iexact N0
    isplitl [HO]; · iexact HO
    isplitl [T00]; · iexact T00
    iexact T10
  iintro ⟨C00, HO⟩
  iapply (phase1_run m ρ K c (OY c chunks) rest) $$ [Ha Sxs Nx T0 T1 HO]
  · isplitr; · iexact HR
    isplitl [Ha]; · iexact Ha
    isplitl [Sxs]; · iexact Sxs
    isplitl [Nx]; · iexact Nx
    isplitl [T0]; · iexact T0
    isplitl [T1]; · iexact T1
    iexact HO
  iintro ⟨Ha, C0, HO⟩
  rw [show prod m ρ c 0 :: rest.map (prod m ρ c) = chunks.map (prod m ρ c) from rfl]
  ihave Ny := (show landY (yp c) ⊢ slots (yp c) yrM fullShare chunks from BI.Entails.refl _) $$ Ny
  iapply (phase2_run m ρ K c chunks) $$ [C1 A1 Sys Ny Own T2 T3 T4 HO]
  · isplitr; · iexact HR
    isplitr; · iexact Hlev
    isplitl [C1]; · iexact C1
    isplitl [A1]; · iexact A1
    isplitl [Sys]; · iexact Sys
    isplitl [Ny]; · iexact Ny
    isplitl [Own]; · iexact Own
    isplitl [T2]; · iexact T2
    isplitl [T3]; · iexact T3
    isplitl [T4]; · iexact T4
    iexact HO
  iintro ⟨Z1, Sxr, C2, C4, HO⟩
  iapply (each_run m ρ K c (phase3 c) _ _ (phase3_run m ρ K c) chunks) $$ [C3 A3 Oth T5 HO]
  · isplitr; · iexact HR
    isplitr; · iexact Hlev
    isplitl [C3 A3 Oth T5]
    · rw [listed_sep, listed_sep, listed_sep]
      isplitl [C3]; · iexact C3
      isplitl [A3]; · iexact A3
      isplitl [Oth]; · iexact Oth
      iexact T5
    iexact HO
  iintro ⟨H, HO⟩
  ihave H := (Entails.of_eq (listed_sep _ _ _)) $$ H
  icases H with ⟨Z3, C5⟩
  iapply (each_run m ρ K c (waitOwn c) _ _ (fun r Q => last_run m ρ K c 4 r _ (sem_own r) _ _ (N_own c r) Q) chunks) $$ [C4 A4 HO]
  · isplitr; · iexact HR
    isplitr; · iexact Hlev
    isplitl [C4 A4]
    · rw [listed_sep]
      isplitl [C4]; · iexact C4
      iexact A4
    iexact HO
  iintro ⟨H, HO⟩
  ihave H := (Entails.of_eq (listed_sep _ _ _)) $$ H
  icases H with ⟨Z4, H⟩
  ihave H := (Entails.of_eq (pays_own m ρ c)) $$ H
  icases H with ⟨Own, Yr⟩
  iapply (each_run m ρ K c (waitOther c) _ _ (fun r Q => last_run m ρ K c 5 r _ (sem_other r) _ _ (N_other c r) Q) chunks) $$ [C5 A5 HO]
  · isplitr; · iexact HR
    isplitr; · iexact Hlev
    isplitl [C5 A5]
    · rw [listed_sep]
      isplitl [C5]; · iexact C5
      iexact A5
    iexact HO
  iintro ⟨H, HO⟩
  ihave H := (Entails.of_eq (listed_sep _ _ _)) $$ H
  icases H with ⟨Z5, H⟩
  ihave H := (Entails.of_eq (pays_other m ρ c)) $$ H
  icases H with ⟨Oth, Syr⟩
  iapply (each_run m ρ K c waitXY _ _ (waitXY_run m ρ K c) chunks) $$ [C00 C0 A0 C2 A2 HO]
  · isplitr; · iexact HR
    isplitr; · iexact Hlev
    isplitl [C00 C0 A0 C2 A2]
    · rw [listed_sep, listed_sep, listed_sep]
      isplitl [C00 C0 A0]
      · isplitl [C00 C0]
        · iapply (Entails.of_eq (creds_first c 0).symm)
          isplitl [C00]; · iexact C00
          iexact C0
        iexact A0
      isplitl [C2]; · iexact C2
      iexact A2
    iexact HO
  iintro ⟨H, HO⟩
  ihave H := (Entails.of_eq (listed_sep _ _ _)) $$ H
  icases H with ⟨H0, H2⟩
  ihave H0 := (Entails.of_eq (listed_sep _ _ _)) $$ H0
  icases H0 with ⟨Z0, Sxs⟩
  ihave H2 := (Entails.of_eq (listed_sep _ _ _)) $$ H2
  icases H2 with ⟨Z2, Yl⟩
  ihave Sys := (slots_join c ysM chunks) $$ [Yl Yr]
  · isplitl [Yl]; · iexact Yl
    iexact Yr
  iapply Hk
  unfold allZero
  isplitl [HO]; · iexact HO
  isplitl [Ha]; · iexact Ha
  isplitl [Hb]; · iexact Hb
  isplitl [Sxs Sxr Sys Syr]
  · isplitl [Sxs]; · iexact Sxs
    isplitl [Sxr]; · iexact Sxr
    isplitl [Sys]; · iexact Sys
    iexact Syr
  isplitl [Own]; · iexact Own
  isplitl [Oth]; · iexact Oth
  isplitl [Zb]; · iexact Zb
  isplitl [Z0]; · iexact Z0
  isplitl [Z1]; · iexact Z1
  isplitl [Z2]; · iexact Z2
  isplitl [Z3]; · iexact Z3
  isplitl [Z4]; · iexact Z4
  iexact Z5

end Cert.KernelIdeal.Mesh

end

end
-- ==== Proof.KernelIdeal.Buffers.lean ====
module

public import proofs.«01_k».proof.Proof.KernelIdeal.Body

/-!
# Buffers and their chunks

A scratch buffer is its eight slots, and the result is the sixteen blocks of rows that the copies write:
taken apart before the program, put together after it.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The slots of a scratch buffer -/

/-- An index lies in slot `r` when its first coordinate is `r`. -/
theorem mem_slot (r : Fin 8) (i : S8x96x1536.Idx) : i ∈ (slotRect r).set ↔ (i 0).val = r.val := by
  rw [Rect.mem_set_unit]
  constructor
  · intro h
    have := h 0
    simp only [Matrix.cons_val_zero] at this
    have h1 : S1x96x1536.size 0 = 1 := rfl
    omega
  · intro h a
    fin_cases a
    · show r.val ≤ (i 0).val ∧ (i 0).val < r.val + 1
      omega
    · exact ⟨Nat.zero_le _, show (i 1).val < 0 + S1x96x1536.size 1 from (Nat.zero_add _).symm ▸ (i 1).isLt⟩
    · exact ⟨Nat.zero_le _, show (i 2).val < 0 + S1x96x1536.size 2 from (Nat.zero_add _).symm ▸ (i 2).isLt⟩
/-- Different slots share no index, -/
theorem slot_disjoint (r r' : Fin 8) (h : r ≠ r') : Disjoint (slotRect r).set (slotRect r').set := by
  rw [Finset.disjoint_left]
  intro i hi hi'
  exact h (Fin.ext (((mem_slot r i).mp hi).symm.trans ((mem_slot r' i).mp hi')))
/-- and together they have every index. -/
theorem slot_cover : (Finset.univ : Finset (Fin 8)).biUnion (fun r => (slotRect r).set) = Finset.univ :=
  Finset.eq_univ_iff_forall.mpr fun i => Finset.mem_biUnion.mpr ⟨⟨(i 0).val, (i 0).isLt⟩, Finset.mem_univ _, (mem_slot _ i).mpr rfl⟩

omit [FloatOps F] in
/-- A family over the chunks, as a list. -/
theorem over_chunks (Φ : Fin 8 → sProp 𝕄) : bigSep Finset.univ Φ = bigSepL chunks Φ := bigSep_univ_eq_bigSepL chunks (by decide) (by decide) Φ

/-- Any contents, as contents that meet the predicate that always holds. -/
abbrev some' (c : Dev nD) {sp : Space} {s : Shape} {e : EltTy} (M : Memref sig .tc sp s e) : sProp 𝕄 :=
  ownsSat (Ix := Unit) (Name := ℕ) (U := UU) (Lvl := ℕ) (c : Thread nD τ) M fullShare (fun _ : s.Idx → Elt F e => True)

omit [FloatOps F] in
/-- A memref with any contents, in terms of its region. -/
theorem any_eq (c : Dev nD) {sp : Space} {s : Shape} {e : EltTy} (M : Memref sig .tc sp s e) :
    (any c M fullShare : sProp 𝕄) = iprop(∃ f : Buf (Elt F) (M.view.loc (c : Thread nD τ)), M.view.loc (c : Thread nD τ) ↦[M.view.set]{fullShare} f) := by
  refine equiv_iff.mp ⟨?_, ?_⟩
  · show (any c M fullShare : sProp 𝕄) ⊢ _
    unfold any owns
    iintro ⟨%v, %f, -, H⟩
    iexists f
    iexact H
  · show _ ⊢ (any c M fullShare : sProp 𝕄)
    unfold any owns
    iintro ⟨%f, H⟩
    iexists (M.view.read (Elt F) f)
    iexists f
    isplitr; · ipureintro; rfl
    iexact H
omit [FloatOps F] in
/-- Contents that meet the predicate that always holds are any contents. -/
theorem some_eq (c : Dev nD) {sp : Space} {s : Shape} {e : EltTy} (M : Memref sig .tc sp s e) :
    (some' c M : sProp 𝕄) = any c M fullShare := by
  rw [any_eq]
  refine equiv_iff.mp ⟨?_, ?_⟩
  · show (some' c M : sProp 𝕄) ⊢ _
    unfold some' ownsSat
    iintro ⟨%f, -, H⟩
    iexists f
    iexact H
  · show _ ⊢ (some' c M : sProp 𝕄)
    unfold some' ownsSat
    iintro ⟨%f, H⟩
    iexists f
    isplitr; · ipureintro; trivial
    iexact H

omit [FloatOps F] in
/-- A slot as a transfer names it and as a block of the buffer. -/
theorem slot_eq (c : Dev nD) (M : Memref sig .tc .vmem S8x96x1536 .bf16) (r : Fin 8) :
    (any c (slot M r) fullShare : sProp 𝕄) = some' c (M.slice (slotRect r) (fun _ => rfl)) := by
  rw [some_eq, any_eq, any_eq]
  have h : (slot M r).view.set = (M.slice (slotRect r) (fun _ => rfl)).view.set := View.set_reshape _ _
  rw [h]

/-- A scratch buffer and its slots. -/
theorem slots_eq (c : Dev nD) (M : Memref sig .tc .vmem S8x96x1536 .bf16) :
    (slots c M fullShare chunks : sProp 𝕄) = bigSep Finset.univ fun r => some' c (M.slice (slotRect r) (fun _ => rfl)) :=
  (over_chunks _).symm.trans (bigSep_congr fun r _ => slot_eq c M r)
/-- A scratch buffer gives its eight slots, -/
theorem slots_of (c : Dev nD) (M : Memref sig .tc .vmem S8x96x1536 .bf16) : (any c M fullShare : sProp 𝕄) ⊢ slots c M fullShare chunks := by
  rw [← some_eq, slots_eq]
  refine BI.Entails.trans ?_ (ownsSat_rects (c : Thread nD τ) M fullShare slotRect (fun _ _ => rfl) slot_disjoint slot_cover (fun _ _ => True))
  exact ownsSat_mono (c : Thread nD τ) M fullShare fun _ _ _ => trivial
/-- and is made of them. -/
theorem of_slots (c : Dev nD) (M : Memref sig .tc .vmem S8x96x1536 .bf16) : slots c M fullShare chunks ⊢ (any c M fullShare : sProp 𝕄) := by
  rw [← some_eq, slots_eq]
  refine BI.Entails.trans (ownsSat_of_rects (c : Thread nD τ) M fullShare slotRect (fun _ _ => rfl) slot_disjoint slot_cover (fun _ _ => True)) ?_
  exact ownsSat_mono (c : Thread nD τ) M fullShare fun _ _ => trivial

omit [FloatOps F] in
/-- A whole buffer at any contents. -/
theorem any_whole (c : Dev nD) (b : Ref sig .tc) :
    (any c (Memref.whole b) fullShare : sProp 𝕄) = iprop(∃ f : Buf (Elt F) ((c : Thread nD τ).loc b), ((c : Thread nD τ).loc b) ↦{fullShare} f) := by
  rw [any_eq]
  simp only [Memref.view_whole, View.set_whole]

/-- The four scratch buffers are the device's scratch slots. -/
theorem scratch_in (c : Dev nD) :
    (Pipeline.scopedRest (Ix := Unit) (Name := ℕ) (U := UU) (Lvl := ℕ) (Val := Elt F) spec0 c : sProp 𝕄) ⊢ scratch c := by
  rw [scopedRest0_eq]
  unfold scratch
  rw [← any_whole, ← any_whole, ← any_whole, ← any_whole]
  iintro ⟨H0, H1, H2, H3⟩
  isplitl [H0]; · iapply (slots_of c xsM); iexact H0
  isplitl [H1]; · iapply (slots_of c xrM); iexact H1
  isplitl [H2]; · iapply (slots_of c ysM); iexact H2
  iapply (slots_of c yrM); iexact H3
/-- The slots of the four scratch buffers give the buffers back. -/
theorem scratch_out (c : Dev nD) :
    scratch c ⊢ (Pipeline.scopedRest (Ix := Unit) (Name := ℕ) (U := UU) (Lvl := ℕ) (Val := Elt F) spec0 c : sProp 𝕄) := by
  rw [scopedRest0_eq]
  unfold scratch
  rw [← any_whole, ← any_whole, ← any_whole, ← any_whole]
  iintro ⟨H0, H1, H2, H3⟩
  isplitl [H0]; · iapply (of_slots c xsM); iexact H0
  isplitl [H1]; · iapply (of_slots c xrM); iexact H1
  isplitl [H2]; · iapply (of_slots c ysM); iexact H2
  iapply (of_slots c yrM); iexact H3

/-! ## The rows of the result -/

/-- The block of rows that a copy writes: `inl r` is chunk `r` of the own half, `inr r` of the other. -/
def rows (c : Dev nD) : Fin 8 ⊕ Fin 8 → Rect S1536x1536
  | .inl r => Rect.unit (s := S1536x1536) (k0_off2 c (BitVec.ofNat 32 (96 * r.val))) S96x1536.size (k0_off2_inb c r)
  | .inr r => Rect.unit (s := S1536x1536) (k0_off3 c (BitVec.ofNat 32 (96 * r.val))) S96x1536.size (k0_off3_inb c r)

/-- The block's number: block `k` is the rows from `96 * k` on. -/
def rowNo (c : Dev nD) : Fin 8 ⊕ Fin 8 → ℕ
  | .inl r => 8 * (c.val % 2) + r.val
  | .inr r => 8 * (1 - c.val % 2) + r.val

/-- An index lies in a block of 96 whole rows when its row, divided by 96, is the block's number. -/
theorem mem_unit_rows {off : Fin 2 → ℕ} (inb : ∀ a, off a + S96x1536.size a ≤ S1536x1536.size a) {k : ℕ} (hoff : off = ![96 * k, 0]) (i : S1536x1536.Idx) :
    i ∈ (Rect.unit (s := S1536x1536) off S96x1536.size inb).set ↔ (i 0).val / 96 = k := by
  subst hoff
  rw [Rect.mem_set_unit]
  constructor
  · intro h
    have h0 : 96 * k ≤ (i 0).val ∧ (i 0).val < 96 * k + 96 := h 0
    omega
  · intro h a
    fin_cases a
    · show 96 * k ≤ (i 0).val ∧ (i 0).val < 96 * k + 96
      omega
    · refine ⟨Nat.zero_le _, ?_⟩
      show (i 1).val < 0 + 1536
      rw [Nat.zero_add]
      exact (i 1).isLt

/-- An index lies in a block of the result when its row does. -/
theorem mem_rows (c : Dev nD) (t : Fin 8 ⊕ Fin 8) (i : S1536x1536.Idx) : i ∈ (rows c t).set ↔ (i 0).val / 96 = rowNo c t := by
  have hc : c.val % 2 < 2 := Nat.mod_lt _ (by decide)
  cases t with
  | inl r => exact mem_unit_rows (k0_off2_inb c r) ((k0_off2_eq c r).trans (by
      show ![768 * (c.val % 2) + 96 * r.val, 0] = ![96 * (8 * (c.val % 2) + r.val), 0]
      rw [show 768 * (c.val % 2) + 96 * r.val = 96 * (8 * (c.val % 2) + r.val) by omega])) i
  | inr r => exact mem_unit_rows (k0_off3_inb c r) ((k0_off3_eq c r).trans (by
      show ![(96 * r.val + 768) - 768 * (c.val % 2), 0] = ![96 * (8 * (1 - c.val % 2) + r.val), 0]
      rw [show (96 * r.val + 768) - 768 * (c.val % 2) = 96 * (8 * (1 - c.val % 2) + r.val) by omega])) i

/-- The sixteen blocks have different numbers, -/
theorem rowNo_inj (c : Dev nD) : Function.Injective (rowNo c) := by
  have hc : c.val % 2 < 2 := Nat.mod_lt _ (by decide)
  intro t t' h
  rcases t with r | r <;> rcases t' with r' | r' <;> simp only [rowNo] at h
  · exact congrArg _ (Fin.ext (by omega))
  · exact absurd h (by omega)
  · exact absurd h (by omega)
  · exact congrArg _ (Fin.ext (by omega))
/-- so they share no index, -/
theorem rows_disjoint (c : Dev nD) (t t' : Fin 8 ⊕ Fin 8) (h : t ≠ t') : Disjoint (rows c t).set (rows c t').set := by
  rw [Finset.disjoint_left]
  intro i hi hi'
  exact h (rowNo_inj c (((mem_rows c t i).mp hi).symm.trans ((mem_rows c t' i).mp hi')))
/-- and together they have every index of the result. -/
theorem rows_cover (c : Dev nD) : (Finset.univ : Finset (Fin 8 ⊕ Fin 8)).biUnion (fun t => (rows c t).set) = Finset.univ := by
  refine Finset.eq_univ_iff_forall.mpr fun i => ?_
  have hi : (i 0).val < 1536 := (i 0).isLt
  have hc : c.val % 2 < 2 := Nat.mod_lt _ (by decide)
  by_cases h : (i 0).val / 96 / 8 = c.val % 2
  · exact Finset.mem_biUnion.mpr ⟨.inl ⟨(i 0).val / 96 % 8, Nat.mod_lt _ (by decide)⟩, Finset.mem_univ _, (mem_rows c _ i).mpr (by
      show (i 0).val / 96 = 8 * (c.val % 2) + (i 0).val / 96 % 8
      omega)⟩
  · exact Finset.mem_biUnion.mpr ⟨.inr ⟨(i 0).val / 96 % 8, Nat.mod_lt _ (by decide)⟩, Finset.mem_univ _, (mem_rows c _ i).mpr (by
      show (i 0).val / 96 = 8 * (1 - c.val % 2) + (i 0).val / 96 % 8
      omega)⟩
/-- The rows of a block follow one another. -/
theorem rows_unit (c : Dev nD) (t : Fin 8 ⊕ Fin 8) : ∀ a, (rows c t).stride a = 1 := by
  cases t <;> exact fun _ => rfl

/-- What the rows of block `t` hold at the end: the own sum, or the second neighbour's. -/
def sums (c : Dev nD) : (t : Fin 8 ⊕ Fin 8) → (rows c t).shape.Idx → Elt F .bf16
  | .inl r => summed m ρ c r
  | .inr r => summed m ρ (yp c) r

/-- The values of the result: every block of rows holds its sum. -/
def IsResult (c : Dev nD) (X : S1536x1536.Idx → Elt F .bf16) : Prop := ∀ t : Fin 8 ⊕ Fin 8, (fun j => X ((rows c t).emb j)) = sums m ρ c t

/-- Those blocks determine the values. -/
theorem isResult_unique (c : Dev nD) {X Y : S1536x1536.Idx → Elt F .bf16} (hX : IsResult m ρ c X) (hY : IsResult m ρ c Y) : X = Y :=
  Rect.ext_of_cover (rows c) (rows_cover c) fun t j => congrFun ((hX t).trans (hY t).symm) j

/-- Known contents, as contents that meet a predicate. -/
theorem has_eq (c : Dev nD) {s : Shape} (M : Memref sig .tc .hbm s .bf16) (v : s.Idx → Elt F .bf16) :
    (has c M fullShare v : sProp 𝕄) = ownsSat (Ix := Unit) (Name := ℕ) (U := UU) (Lvl := ℕ) (c : Thread nD τ) M fullShare (fun X => X = v) := rfl

/-- The result's buffer is the blocks of rows at any contents, -/
theorem result_in (c : Dev nD) (f : Buf (Elt F) ((c : Thread nD τ).loc main_v1)) :
    (((c : Thread nD τ).loc main_v1) ↦{fullShare} f : sProp 𝕄) ⊢ iprop(ownAny c chunks ∗ otherAny c chunks) := by
  have h1 : (((c : Thread nD τ).loc main_v1) ↦{fullShare} f : sProp 𝕄) ⊢ any c outM fullShare := by
    rw [any_whole]
    iintro H
    iexists f
    iexact H
  refine h1.trans ?_
  rw [← some_eq]
  refine BI.Entails.trans (ownsSat_mono (c : Thread nD τ) outM fullShare fun _ _ _ => trivial) (BI.Entails.trans
    (ownsSat_rects (c : Thread nD τ) outM fullShare (rows c) (rows_unit c) (rows_disjoint c) (rows_cover c) (fun _ _ => True)) ?_)
  rw [BI.bigSep_univ_sum, over_chunks, over_chunks]
  exact BIClass.sep_mono (bigSepL_mono fun r _ => Entails.of_eq (some_eq c (ownRows c r))) (bigSepL_mono fun r _ => Entails.of_eq (some_eq c (otherRows c r)))
/-- and the blocks, each holding its sum, are the buffer holding the result. -/
theorem result_out (c : Dev nD) : iprop(ownDone m ρ c chunks ∗ otherDone m ρ c chunks)
    ⊢ (iprop(∃ f : Buf (Elt F) ((c : Thread nD τ).loc main_v1), ⌜IsResult m ρ c f⌝ ∗ (((c : Thread nD τ).loc main_v1) ↦{fullShare} f)) : sProp 𝕄) := by
  have h := ownsSat_of_rects (Ix := Unit) (Name := ℕ) (U := UU) (Lvl := ℕ) (Val := Elt F) (c : Thread nD τ) outM fullShare (rows c) (rows_unit c) (rows_disjoint c) (rows_cover c) (fun t X => X = sums m ρ c t)
  rw [BI.bigSep_univ_sum, over_chunks, over_chunks] at h
  have h2 : (ownsSat (Ix := Unit) (Name := ℕ) (U := UU) (Lvl := ℕ) (c : Thread nD τ) outM fullShare (IsResult m ρ c) : sProp 𝕄)
      ⊢ iprop(∃ f : Buf (Elt F) ((c : Thread nD τ).loc main_v1), ⌜IsResult m ρ c f⌝ ∗ (((c : Thread nD τ).loc main_v1) ↦{fullShare} f)) := by
    unfold ownsSat
    simp only [Memref.view_whole, View.set_whole, View.read_whole]
    iintro ⟨%f, %hf, H⟩
    iexists f
    isplitr; · ipureintro; exact hf
    iexact H
  exact BI.Entails.trans h h2

end Cert.KernelIdeal.Mesh

end

end
-- ==== Proof.KernelIdeal.Ghost.lean ====
module

public import proofs.«01_k».proof.Proof.KernelIdeal.Buffers

/-!
# What every device starts with

The cells of all devices are set up together: each device keeps its positions, and the right to pay a cell goes to the
device that pays it. Its credit is what its neighbours owe it.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

omit [FloatOps F] in
/-- A family over the transfer cells, kind by kind. -/
theorem over_kinds (Φ : Fin 6 × Fin 8 → sProp 𝕄) : bigSep Finset.univ Φ
    = iprop(bigSepL chunks (fun r => Φ (0, r)) ∗ bigSepL chunks (fun r => Φ (1, r)) ∗ bigSepL chunks (fun r => Φ (2, r))
      ∗ bigSepL chunks (fun r => Φ (3, r)) ∗ bigSepL chunks (fun r => Φ (4, r)) ∗ bigSepL chunks (fun r => Φ (5, r))) := by
  rw [bigSep_univ_prod, bigSep_univ_eq_bigSepL [0, 1, 2, 3, 4, 5] (by decide) (by decide)]
  show iprop(bigSep Finset.univ (fun r => Φ (0, r)) ∗ bigSep Finset.univ (fun r => Φ (1, r)) ∗ bigSep Finset.univ (fun r => Φ (2, r))
      ∗ bigSep Finset.univ (fun r => Φ (3, r)) ∗ bigSep Finset.univ (fun r => Φ (4, r)) ∗ bigSep Finset.univ (fun r => Φ (5, r))) = _
  simp only [over_chunks]

omit [FloatOps F] in
/-- A family over a device's cells: its barrier's, and the transfers'. -/
theorem over_cells (Φ : Cell → sProp 𝕄) : bigSep Finset.univ Φ = iprop(Φ none ∗ bigSep Finset.univ fun q => Φ (some q)) := by
  rw [bigSep_univ_equiv ((Equiv.sumComm PUnit.{1} (Fin 6 × Fin 8)).trans (Equiv.optionEquivSumPUnit (Fin 6 × Fin 8)).symm) Φ, BI.bigSep_univ_sum]
  rw [show (Finset.univ : Finset PUnit.{1}) = {PUnit.unit} from rfl, bigSep_singleton]
  rfl

/-! ## Cells and tokens -/

/-- Different cells of a device have different semaphores. -/
theorem csem_inj : Function.Injective csem := by
  intro k k' h
  rcases k with _ | ⟨a, r⟩ <;> rcases k' with _ | ⟨a', r'⟩
  · rfl
  · cases h
  · cases h
  · have h1 : dsem a r = dsem a' r' := SemLoc.dma.inj h
    have h2 : 2 + (r.val + 8 * a.val) = 2 + (r'.val + 8 * a'.val) := congrArg Fin.val h1
    have ha : a = a' := Fin.ext (by omega)
    have hr : r = r' := Fin.ext (by omega)
    rw [ha, hr]
/-- Different cells are different, over all devices. -/
theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]
/-- The cells of all devices. -/
def allCells : Finset (GSem nD τ sig) := Finset.univ.map ⟨kcell, kcell_inj⟩

/-- A payment to a cell of one device: one of the barrier's two, or a transfer's. -/
abbrev Pay : Type := Bool ⊕ (Fin 6 × Fin 8)
/-- The right to pay that a payment needs. -/
abbrev tokOf : Dev nD × Pay → GSem nD τ sig × ℕ × Bool
  | (c, .inl b) => (kcell (c, none), 0, b)
  | (c, .inr q) => (kcell (c, some q), 0, false)
/-- Different payments need different rights. -/
theorem tokOf_inj : Function.Injective tokOf := by
  rintro ⟨c, t⟩ ⟨c', t'⟩ h
  rcases t with b | q <;> rcases t' with b' | q'
  · have h1 := kcell_inj (congrArg Prod.fst h)
    have h2 : b = b' := congrArg (fun x => x.2.2) h
    rw [show c = c' from congrArg Prod.fst h1, h2]
  · exact absurd (congrArg Prod.snd (kcell_inj (congrArg Prod.fst h))) (by simp)
  · exact absurd (congrArg Prod.snd (kcell_inj (congrArg Prod.fst h))) (by simp)
  · have h1 := kcell_inj (congrArg Prod.fst h)
    rw [show c = c' from congrArg Prod.fst h1, show q = q' from Option.some.inj (congrArg Prod.snd h1)]
/-- The rights to pay of all devices. -/
def allToks : Finset (GSem nD τ sig × ℕ × Bool) := Finset.univ.map ⟨tokOf, tokOf_inj⟩

/-- The ghost state at launch. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((dutyTok ER (barCell c) 0 false ∗ dutyTok ER (barCell c) 0 true)
    ∗ toks c 0 chunks ∗ toks c 1 chunks ∗ toks c 2 chunks ∗ toks c 3 chunks ∗ toks c 4 chunks ∗ toks c 5 chunks)

/-- A device's share of the launch's ghost state. -/
def G (c : Dev nD) : sProp 𝕄 :=
  iprop((bigSep Finset.univ fun k : Cell => roundState ER (Rd m ρ) (kcell (c, k)) 0)
    ∗ (bigSep Finset.univ fun k : Cell => iprop(atPos ER (kcell (c, k)) 0 ∅ 0 ∗ reached ER (kcell (c, k)) 0)) ∗ ownToks c)
/-- What the set-up makes of it: the records of all cells, the device's positions, and the right to its payments. -/
def G' (c : Dev nD) : sProp 𝕄 := iprop(∃ K, records m ρ K ∗ positions c ∗ payToks c)

/-- The launch's ghost state gives every device its share. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells
    rw [bigSep_map, bigSep_univ_prod]
    rfl
  have hT : bigSep allToks (fun x => (dutyTok ER x.1 x.2.1 x.2.2 : sProp 𝕄)) = bigSep Finset.univ fun c : Dev nD => ownToks c := by
    unfold allToks
    rw [bigSep_map, bigSep_univ_prod]
    refine bigSep_congr fun c _ => ?_
    rw [BI.bigSep_univ_sum, over_kinds, bigSep_univ_eq_bigSepL [false, true] (by decide) (by decide), bigSepL_cons_cons, bigSepL_singleton]
    rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat Hr]
  · isplitl [Hat] <;> iassumption
  iexact Htok

/-! ## The counters at zero -/

/-- The kernel's own counters: the transfers'. -/
abbrev osem : Fin 6 × Fin 8 → SemLoc sig := fun q => .dma (dsem q.1 q.2)

omit [FloatOps F] in
/-- The counters of the transfers at zero, kind by kind. -/
theorem ownSems0_eq (c : Dev nD) : (Pipeline.ownSems0 (Ix := Unit) (Name := ℕ) (U := UU) (Lvl := ℕ) (Val := Elt F) (τ := τ) osem c : sProp 𝕄)
    = bigSep Finset.univ fun q : Fin 6 × Fin 8 => semVal (dCell c q.1 q.2) 0 := rfl
omit [FloatOps F] in
/-- The only other counter is the barrier's. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

omit [FloatOps F] in
/-- All of a device's counters. -/
theorem allZero_eq (c : Dev nD) : (allZero c : sProp 𝕄)
    = iprop(unscopedSems0 c ∗ Pipeline.ownSems0 (Ix := Unit) (Name := ℕ) (U := UU) (Lvl := ℕ) (Val := Elt F) (τ := τ) osem c) := by
  rw [ownSems0_eq, unscopedSems0_eq, over_kinds]
  rfl
omit [FloatOps F] in
/-- All counters of a device at zero, cell by cell. -/
theorem allZero_cells (c : Dev nD) : (allZero c : sProp 𝕄) = bigSep Finset.univ fun k : Cell => semVal (kcell (c, k)) 0 := by
  rw [over_cells, over_kinds]
  rfl
omit [FloatOps F] in
/-- All positions of a device, cell by cell. -/
theorem positions_cells (c : Dev nD) : (positions c : sProp 𝕄) = bigSep Finset.univ fun k : Cell => atPos ER (kcell (c, k)) 0 ∅ 0 := by
  rw [over_cells, over_kinds]
  rfl

/-! ## The set-up -/

/-- A device's counters and its share of the ghost state give its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ ownToks c) := by
  unfold G
  iintro ⟨Hos, Hus, Hst, Hat, Htok⟩
  ihave Hv := (Entails.of_eq ((allZero_eq (F := F) c).symm.trans (allZero_cells c))) $$ [Hos Hus]
  · isplitl [Hus] <;> iassumption
  imod (show iprop((bigSep Finset.univ fun k : Cell => semVal (kcell (c, k)) 0) ∗ bigSep Finset.univ fun k : Cell => roundState ER (Rd m ρ) (kcell (c, k)) 0)
      ⊢ (|={Set.univ}=> bigSep Finset.univ fun k : Cell => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens go to the devices that pay: a barrier's to either neighbour, a receive's to the sender. -/
theorem deal : (bigSep Finset.univ fun c : Dev nD => (ownToks c : sProp 𝕄)) ⊢ bigSep Finset.univ fun c : Dev nD => payToks c := by
  unfold ownToks payToks
  simp only [bigSep_sep']
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => (toks c 1 chunks : sProp 𝕄)),
    bigSep_univ_equiv yEquiv (fun c : Dev nD => (toks c 3 chunks : sProp 𝕄))]
  iintro ⟨⟨H1, H2⟩, H3⟩
  isplitl [H1]; · iexact H1
  isplitl [H2]; · iexact H2
  iexact H3

/-- The cells of the devices, put together, give every device a record of all of them and the rights to pay that it uses. -/
theorem gather :
    (bigSep Finset.univ fun c : Dev nD => iprop((bigSep Finset.univ fun k : Cell => iprop(∃ κ : ℕ, cellInv ER (Rd m ρ) κ (kcell (c, k))))
          ∗ (bigSep Finset.univ fun k : Cell => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Cell => iprop(∃ κ : ℕ, cellInv ER (Rd m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Htk := (deal (F := F)) $$ Htok
  have hall : iprop(records m ρ K ∗ bigSep Finset.univ fun c : Dev nD => (iprop(positions c ∗ payToks c) : sProp 𝕄)) ⊢ bigSep Finset.univ (G' m ρ) := by
    refine (sep_mono_left (BI.bigSep_of_persistent (Finset.univ : Finset (Dev nD)) (records m ρ K))).trans ?_
    rw [← bigSep_sep']
    refine bigSep_mono fun c _ => ?_
    show iprop(records m ρ K ∗ positions c ∗ payToks c) ⊢ G' m ρ c
    unfold G'
    iintro H
    iexists K
    iexact H
  iapply hall
  isplitr
  · unfold records
    isplitl; · iexact HI
    iexact HR
  · rw [bigSep_sep', bigSep_congr (s := Finset.univ) fun (c : Dev nD) _ => positions_cells (F := F) c]
    isplitl [Hat]; · iexact Hat
    iexact Htk

/-- The set-up of all devices at once. -/
theorem setup : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (gather m ρ))

/-! ## The credit -/

omit [FloatOps F] in
/-- The credit for what the x neighbour owes, -/
theorem credX (c : Dev nD) (l : List (Fin 8)) : (Pipeline.launchCred (fun d => OX d l) c : sProp 𝕄) ⊢ creds c 1 l := by
  induction l with
  | nil => exact Entails.of_eq (Pipeline.launchCred_zero c)
  | cons r l ih =>
    show (Pipeline.launchCred (fun d => OX d l + tallyAt (dCell (xp d) 1 r) () N) c : sProp 𝕄) ⊢ _
    rw [Pipeline.launchCred_add, show (creds c 1 (r :: l) : sProp 𝕄) = iprop(cred (tallyAt (dCell c 1 r) () N) ∗ creds c 1 l) from bigSepL_cons' _ _ _]
    iintro ⟨H, H1⟩
    isplitl [H1]; · iapply (Pipeline.launchCred_tallyAt (.dma (dsem 1 r)) xp xp xp_xp xp_xp () N c); iexact H1
    iapply ih
    iexact H
omit [FloatOps F] in
/-- and for what the y neighbour owes. -/
theorem credY (c : Dev nD) (l : List (Fin 8)) : (Pipeline.launchCred (fun d => OY d l) c : sProp 𝕄) ⊢ creds c 3 l := by
  induction l with
  | nil => exact Entails.of_eq (Pipeline.launchCred_zero c)
  | cons r l ih =>
    show (Pipeline.launchCred (fun d => OY d l + tallyAt (dCell (yp d) 3 r) () N) c : sProp 𝕄) ⊢ _
    rw [Pipeline.launchCred_add, show (creds c 3 (r :: l) : sProp 𝕄) = iprop(cred (tallyAt (dCell c 3 r) () N) ∗ creds c 3 l) from bigSepL_cons' _ _ _]
    iintro ⟨H, H1⟩
    isplitl [H1]; · iapply (Pipeline.launchCred_tallyAt (.dma (dsem 3 r)) yp yp yp_yp yp_yp () N c); iexact H1
    iapply ih
    iexact H

omit [FloatOps F] in
/-- A device's credit: two units at its barrier, and every chunk that its neighbours send. -/
theorem credit_in (c : Dev nD) : (Pipeline.launchCred O₀ c : sProp 𝕄) ⊢ credit c := by
  show (Pipeline.launchCred (fun d => ((OY d chunks + OX d chunks) + tallyAt (barCell (yp d)) () 1) + tallyAt (barCell (xp d)) () 1) c : sProp 𝕄) ⊢ _
  rw [Pipeline.launchCred_add, Pipeline.launchCred_add, Pipeline.launchCred_add]
  unfold credit
  iintro ⟨⟨⟨HY, HX⟩, By⟩, Bx⟩
  isplitl [By Bx]
  · rw [show (tallyAt (barCell c) () 2 : CellTallies nD τ sig Unit) = tallyAt (barCell c) () 1 + tallyAt (barCell c) () 1 from (tallyAt_add _ _ 1 1).symm]
    iapply (cred_add _ _).2
    isplitl [By]
    · iapply (Pipeline.launchCred_tallyAt (.reg barS) yp yp yp_yp yp_yp () 1 c); iexact By
    · iapply (Pipeline.launchCred_tallyAt (.reg barS) xp xp xp_xp xp_xp () 1 c); iexact Bx
  isplitl [HX]
  · iapply (credX (F := F) c chunks); iexact HX
  · iapply (credY (F := F) c chunks); iexact HY

end Cert.KernelIdeal.Mesh

end

end
-- ==== Proof.KernelIdeal.Launch.lean ====
module

public import proofs.«01_k».proof.Proof.KernelIdeal.Ghost
public import Idealize.ShloMosaic.Lib.Pipeline.CollectiveSegs

/-!
# The run

Every weakly fair execution of the four devices' programs ends, with both arguments as they were, every counter at zero,
and on each device a result whose blocks of rows hold the sums.
-/

@[expose] public section

set_option maxRecDepth 16384

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The call has a single step, -/
theorem N_one : cfg0.N = 1 := by decide
/-- this one, -/
def t₀ : Fin cfg0.N := ⟨0, by rw [N_one]; decide⟩
/-- and no other. -/
theorem t₀_only (t : Fin cfg0.N) : t = t₀ := Fin.ext (show t.val = 0 by have := N_one; have := t.isLt; omega)

/-- The result's buffer at any contents, and at its final contents. -/
def resAny (c : Dev nD) : sProp 𝕄 := iprop(∃ f : Buf (Elt F) ((c : Thread nD τ).loc main_v1), ((c : Thread nD τ).loc main_v1) ↦{fullShare} f)
/-- The result of device `c`, done. -/
def resDone (c : Dev nD) : sProp 𝕄 := iprop(∃ f : Buf (Elt F) ((c : Thread nD τ).loc main_v1), ⌜IsResult m ρ c f⌝ ∗ (((c : Thread nD τ).loc main_v1) ↦{fullShare} f))

/-- What a device's program starts from. -/
def start (c : Dev nD) : sProp 𝕄 := iprop(G' m ρ c ∗ credit c ∗ levAts L lv ∗ resAny c)
/-- What the program starts with, besides its windows. -/
def Φ₀ (c : Dev nD) : sProp 𝕄 := iprop(start m ρ c ∗ scratch c)
/-- What it ends with. -/
def Φ₁ (c : Dev nD) : sProp 𝕄 := iprop(scratch c ∗ resDone m ρ c ∗ allZero c)

/-- The one call: both windows are read and left as they are. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A family over the two windows. -/
theorem over_windows (Φ : Fin cfg0.W → sProp 𝕄) : bigSep Finset.univ Φ = iprop(Φ (0 : Fin 2) ∗ Φ (1 : Fin 2)) := bigSep_W0 Φ

/-- A staging buffer with the contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
omit [FloatOps F] in
/-- A whole staging buffer as a memref. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns
  simp only [Memref.view_whole, View.read_whole, View.set_whole]

/-- The first window stages the block of `a`, -/
theorem before_a (c : Dev nD) (d) : (dats m ρ 0 c).before (0 : Fin 2) t₀ d = aStg m ρ c := by
  unfold Dat.before
  rw [if_pos (show (cfg0.win (0 : Fin 2)).fetch t₀ = true from rfl)]
  rfl
/-- and the second that of `b`. -/
theorem before_b (c : Dev nD) (d) : (dats m ρ 0 c).before (1 : Fin 2) t₀ d = bStg m ρ c := by
  unfold Dat.before
  rw [if_pos (show (cfg0.win (1 : Fin 2)).fetch t₀ = true from rfl)]
  rfl

/-- What the program takes, -/
def before (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))
/-- and what it leaves. -/
def after (c : Dev nD) : sProp 𝕄 :=
  iprop(Φ₁ m ρ c ∗ (dats m ρ 0 c).owesAt () t₀.succ ∗ staged c cc0_stg0_0 (aStg m ρ c) ∗ staged c cc0_stg1_0 (bStg m ρ c))

/-- The program runs from the one to the other. -/
theorem program_run (c : Dev nD) : before m ρ c ⊢ runs c body (fun _ => after m ρ c) := by
  unfold before Φ₀ start G' resAny Dat.owesAt Pipeline.owesWithin
  rw [show (dats m ρ 0 c).owed t₀.castSucc = O₀ c from rfl]
  iintro ⟨⟨⟨⟨%K, #HR, Hat, Htok⟩, Hcr, #Hlev, ⟨%f, Hres⟩⟩, Hscr⟩, ⟨%W, -, HO⟩, ⟨%da, %fa, %hfa, Ha⟩, ⟨%db, %fb, %hfb, Hb⟩⟩
  rw [before_a] at hfa
  rw [before_b] at hfb
  subst hfa
  subst hfb
  ihave Hres := (result_in c f) $$ Hres
  icases Hres with ⟨Hown, Hoth⟩
  iapply (body_run m ρ K c fun _ => after m ρ c)
  isplitl
  · isplitr; · iexact HR
    isplitr; · iexact Hlev
    isplitl [HO]; · unfold ow; iexists W; iexact HO
    isplitl [Ha]; · unfold aPts; iexact Ha
    isplitl [Hb]; · unfold bPts; iexact Hb
    isplitl [Hscr]; · iexact Hscr
    isplitl [Hown]; · iexact Hown
    isplitl [Hoth]; · iexact Hoth
    isplitl [Hcr]; · iexact Hcr
    isplitl [Hat]; · iexact Hat
    iexact Htok
  unfold ow aPts bPts
  iintro ⟨⟨%W', HO⟩, Ha, Hb, Hscr, Hown, Hoth, Hz⟩
  unfold after Φ₁ resDone Dat.owesAt Pipeline.owesWithin
  rw [show (dats m ρ 0 c).owed t₀.succ = 0 from rfl]
  isplitl [Hscr Hown Hoth Hz]
  · isplitl [Hscr]; · iexact Hscr
    isplitl [Hown Hoth]
    · iapply (result_out m ρ c)
      isplitl [Hown] <;> iassumption
    iexact Hz
  isplitl [HO]
  · iexists W'
    isplitr; · ipureintro; exact fun _ _ => Or.inl trivial
    iexact HO
  isplitl [Ha]
  · iexists _
    isplitr; · (ipureintro; rfl)
    iexact Ha
  iexists _
  isplitr; · (ipureintro; rfl)
  iexact Hb

/-- The call's program does what the call's data say. -/
theorem call_run (c : Dev nD) : BodyObligation (dats (F := F) m ρ 0 c) (defs₀ (F := F)) 𝒱₀ () Set.univ := fun t => by
  rw [t₀_only t]
  rw [over_windows, over_windows]
  simp only [owns_staged]
  have h := program_run m ρ c
  rw [← body_eq] at h
  exact h

/-- Every window is owned in full. -/
theorem share_full (c : Dev nD) (w : Fin cfg0.W) : (dats m ρ 0 c).share w = fullShare := by
  unfold Dat.share
  split <;> rfl

/-- The windows' own semaphores come before those of the transfers. -/
theorem stage_sem : ∀ (w : Fin cfg0.W) (s : Fin (cfg0.spec w).nbuf), ((cfg0.spec w).sem s).val < 2 := by decide

/-- The semaphores of the transfers are apart from those of the windows. -/
theorem ownSemFacts : Pipeline.OwnSemFacts cfg0.spec osem where
  isScoped := by decide
  inj := fun q q' h => Option.some.inj (csem_inj (a₁ := some q) (a₂ := some q') h)
  disj := fun q w s h => by
    have h1 : dsem q.1 q.2 = (cfg0.spec w).sem s := SemLoc.dma.inj h
    have h2 : ((cfg0.spec w).sem s).val < 2 := stage_sem w s
    rw [← h1] at h2
    exact absurd h2 (show ¬ 2 + (q.2.val + 8 * q.1.val) < 2 by omega)

/-- What a device is given at the launch makes up what its program starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show (Pipeline.unscopedRest cfg0.spec c (fun b => m ((c : Thread nD τ).loc b)) : sProp 𝕄) = Pipeline.unscopedRest spec0 c (fun b => m ((c : Thread nD τ).loc b)) from rfl, unscopedRest0_eq]
  iintro ⟨Hres, Hlev, Hcr, -, HG⟩
  ihave Hc := (credit_in (F := F) c) $$ Hcr
  imodintro
  unfold start resAny
  isplitl
  · isplitl [HG]; · iexact HG
    isplitl [Hc]; · iexact Hc
    isplitl [Hlev]; · iexact Hlev
    iexists _
    iexact Hres
  · iempintro

/-- At entry the call's memory gives the program its scratch and its result, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  show _ ⊢ Φ₀ m ρ c
  unfold Φ₀
  iintro ⟨Hs, -, Hr⟩
  isplitl [Hs]; · iexact Hs
  iapply (scratch_in (F := F) c)
  iexact Hr

/-- and at the end the program gives them back. -/
theorem leave (c : Dev nD) :
    (dats m ρ 0 c).Φ (Fin.last cfg0.N) ⊢ iprop((unscopedSems0 c ∗ resDone m ρ c) ∗ Pipeline.ownSems0 osem c ∗ Pipeline.scopedRest cfg0.spec c) := by
  show Φ₁ m ρ c ⊢ _
  unfold Φ₁
  rw [allZero_eq]
  iintro ⟨Hr, Hres, Hu, Ho⟩
  isplitl [Hu Hres]
  · isplitl [Hu] <;> iassumption
  isplitl [Ho]; · iexact Ho
  iapply (scratch_out (F := F) c)
  iexact Hr

/-- The windows' own waits never wait for what the device owes. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The final state: the windows' arrays as the call's data leave them, and every device's result. -/
def Ends : PUnit × MemSt nD τ sig (Elt F) → Prop := fun r => ∀ c : Dev nD,
  (∀ w : Fin cfg0.W, r.2.mem ((cfg0.win w).arr.view.loc (c : Thread nD τ)) = (dats m ρ 0 c).arrAt w cfg0.N)
    ∧ IsResult m ρ c (r.2.mem ((c : Thread nD τ).loc main_v1))

/-- From any memory with every counter at zero, every weakly fair execution of the four programs ends; at the end the
    arguments are unchanged, the results hold the sums, and the counters are at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := call_run m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := setup m ρ)
    (hA := fun _ _ => rfl) (hpf := fun _ k => k.elim0)
    (X := start m ρ) (Y := fun c => iprop(unscopedSems0 c ∗ resDone m ρ c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ IsResult m ρ c (s.mem ((c : Thread nD τ).loc main_v1)))
    (hY := fun c s' => by
      unfold resDone
      iintro ⟨⟨Hu, ⟨%f, %hf, H⟩⟩, -, HSI⟩
      icombine HSI H gives %h
      imod (Pipeline.unscopedSems0_read (X := unscopedSems0 c) (c := c) fupd_intro s') $$ [Hu HSI] with ⟨%hz, HSI⟩
      · isplitl [Hu] <;> iassumption
      imodintro
      isplitr; · ipureintro; exact ⟨hz, (Buf.eq_of_forall_mem_univ h).symm ▸ hf⟩
      iexact HSI)
    (hQ := fun _ h hs => ⟨fun c => ⟨(h c).1, (h c).2.2.2⟩, sem_eq_zero hs fun c => (h c).2.2.1⟩)

/-- The arguments are unchanged. -/
theorem arg_a (c : Dev nD) : (dats m ρ 0 c).arrAt (0 : Fin 2) cfg0.N = (s₀ m ρ).mem ((c : Thread nD τ).loc main_arg0) :=
  (dats (F := F) m ρ 0 c).arrAt_in (0 : Fin 2) rfl _
/-- The second argument ends as it was. -/
theorem arg_b (c : Dev nD) : (dats m ρ 0 c).arrAt (1 : Fin 2) cfg0.N = (s₀ m ρ).mem ((c : Thread nD τ).loc main_arg1) :=
  (dats (F := F) m ρ 0 c).arrAt_in (1 : Fin 2) rfl _

end Cert.KernelIdeal.Mesh

end

end
-- ==== Proof.KernelIdeal.Result.lean ====
module

public import proofs.«01_k».proof.Proof.KernelIdeal.Launch

/-!
# What the program ends with

The run, read at the two arguments, at the result and at the semaphores.
-/

@[expose] public section

noncomputable section

namespace Cert.KernelIdeal.Mesh

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Every execution ends, with each device's result holding the sums of both neighbours, its arguments as they were,
and every semaphore at zero. -/
theorem run_kept : θ_run defs (onTc (τ := τ) (main (F := F))) ⟨m, fun _ => 0, ρ⟩ (fun r =>
    (∀ c : Dev nD, IsResult m ρ c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c).2, ((h.1 c).1 (0 : Fin 2)).trans (arg_a m ρ c),
    ((h.1 c).1 (1 : Fin 2)).trans (arg_b m ρ c)⟩, h.2⟩) (run_main m ρ)

end Cert.KernelIdeal.Mesh

end

end
-- ==== Proof.Value.lean ====
module

public import proofs.«01_k».proof.Proof.KernelIdeal.Launch
public import Idealize.ShloMosaic.Lib.MatmulPlain
public import Idealize.ShloMosaic.Lib.ValueIdx
public import Idealize.ShloMosaic.Lib.Layout

/-!
# The values of the result

With exact arithmetic, and each device holding its columns of `A` and its rows of `B`, the sum that the devices compute
for a chunk of rows is the product of those rows of `A` with `B`: one neighbour contracts over the first half of the
positions and the other over the second half.
-/

@[expose] public section

set_option maxRecDepth 16384

noncomputable section

namespace Cert.KernelIdeal.Mesh

open Cert.KernelIdeal Cert.KernelIdeal.Gen
open Idealize.ShloMosaic
open Idealize.ShloMosaic.TcCoe
open Idealize.ShloMosaic.ValueIdx
open scoped BigOperators

variable (m : (ℓ : Loc nD τ sig) → Buf (Elt Ideal) ℓ) (ρ : Dev nD → PrngReg)

/-- The whole arrays. -/
abbrev Square : Type := (⟨2, ![1536, 1536]⟩ : Shape).Idx → Elt Ideal .bf16

/-- What the devices hold of the whole arrays: device `c` half `c / 2` of `A`'s columns, -/
def HoldsA (A : Square) : Prop := ∀ c : Dev nD, m ((c : Thread nD τ).loc main_arg0)
  = Layout.blockN ⟨2, ![1536, 768]⟩ ⟨2, ![1536, 1536]⟩ (Layout.meshBlock [2, 2] ![[], [0]] c) A
/-- and half `c / 2` of `B`'s rows. -/
def HoldsB (B : Square) : Prop := ∀ c : Dev nD, m ((c : Thread nD τ).loc main_arg1)
  = Layout.blockN ⟨2, ![768, 1536]⟩ ⟨2, ![1536, 1536]⟩ (Layout.meshBlock [2, 2] ![[0], []] c) B

/-- Position `k` of half `h` of the contracted positions. -/
def pos (h : Fin 2) (k : Fin 768) : Fin 1536 := ⟨768 * h.val + k.val, by omega⟩
/-- The half that device `c` contracts over. -/
def half (c : Dev nD) : Fin 2 := ⟨c.val / 2, by have := c.isLt; change c.val < 4 at this; omega⟩
/-- Row `i` of chunk `r` of device `c`. -/
def row (c : Dev nD) (r : Fin 8) (i : Fin 96) : Fin 1536 := ⟨768 * (c.val % 2) + 96 * r.val + i.val, by omega⟩

/-- The half that a device holds is its position along the mesh's first axis. -/
theorem mesh_half (c : Dev nD) : Layout.meshLin [2, 2] c.val [0] = c.val / 2 := by revert c; decide
/-- The x neighbour holds the other half, and works on the same rows; -/
theorem half_xp (c : Dev nD) : half (xp c) = 1 - half c := by revert c; decide
theorem mod_xp (c : Dev nD) : (xp c).val % 2 = c.val % 2 := by revert c; decide
/-- the y neighbour works on the other rows. -/
theorem mod_yp (c : Dev nD) : (yp c).val % 2 = 1 - c.val % 2 := by revert c; decide
/-- Row by row, the x neighbour's chunks are the device's. -/
theorem row_xp (c : Dev nD) (r : Fin 8) (i : Fin 96) : row (xp c) r i = row c r i :=
  Fin.ext (by show 768 * ((xp c).val % 2) + 96 * r.val + i.val = 768 * (c.val % 2) + 96 * r.val + i.val; rw [mod_xp])

/-! ## The arguments -/

/-- What device `c` holds of `A`, at an index. -/
theorem aStg_apply {A : Square} (hA : HoldsA m A) (c : Dev nD) (i : Fin 1536) (k : Fin 768) :
    aStg m ρ c (ix2 i k) = A (ix2 i (pos (half c) k)) := by
  have h : aStg m ρ c (ix2 i k) = m ((c : Thread nD τ).loc main_arg0) (ix2 i k) := by
    show m ((c : Thread nD τ).loc main_arg0) ((win0_0.blk (0 : Fin 1)).view.emb (ix2 i k)) = _
    congr 1
    funext a
    apply Fin.ext
    fin_cases a
    · show 0 * 1536 + 1 * i.val = i.val; omega
    · show 0 * 768 + 1 * k.val = k.val; omega
  rw [h, hA c, Layout.blockN_apply]
  congr 1
  funext a
  apply Fin.ext
  rw [Layout.TilesN.idx_val]
  fin_cases a
  · show 0 * 1536 + i.val = i.val
    omega
  · show Layout.meshLin [2, 2] c.val [0] * 768 + k.val = 768 * (c.val / 2) + k.val
    rw [mesh_half]
    omega
/-- What device `c` holds of `B`, at an index. -/
theorem bStg_apply {B : Square} (hB : HoldsB m B) (c : Dev nD) (k : Fin 768) (j : Fin 1536) :
    bStg m ρ c (ix2 k j) = B (ix2 (pos (half c) k) j) := by
  have h : bStg m ρ c (ix2 k j) = m ((c : Thread nD τ).loc main_arg1) (ix2 k j) := by
    show m ((c : Thread nD τ).loc main_arg1) ((win0_1.blk (0 : Fin 1)).view.emb (ix2 k j)) = _
    congr 1
    funext a
    apply Fin.ext
    fin_cases a
    · show 0 * 768 + 1 * k.val = k.val; omega
    · show 0 * 1536 + 1 * j.val = j.val; omega
  rw [h, hB c, Layout.blockN_apply]
  congr 1
  funext a
  apply Fin.ext
  rw [Layout.TilesN.idx_val]
  fin_cases a
  · show Layout.meshLin [2, 2] c.val [0] * 768 + k.val = 768 * (c.val / 2) + k.val
    rw [mesh_half]
    omega
  · show 0 * 1536 + j.val = j.val
    omega

/-! ## The products and their sum -/

/-- The kernel's contraction is the plain one, rows by columns. -/
theorem dims_plain : dot_S96x768_S768x1536_S96x1536_1_0_0_1_n_n = DotDims.plain 96 768 1536 := rfl

/-- The product of a chunk is its rows of `A` times `B`, over half of the contracted positions. -/
theorem prod_apply {A B : Square} (hA : HoldsA m A) (hB : HoldsB m B) (c : Dev nD) (r : Fin 8) (i : Fin 96) (j : Fin 1536) :
    prod m ρ c r (ix2 i j) = ∑ k : Fin 768, (A (ix2 (row c r i) (pos (half c) k)) * B (ix2 (pos (half c) k) j) : EReal) := by
  unfold prod
  simp only [part, k0_pay2, k0_pay1, shapeCast_self, matmul, dims_plain]
  rw [Ideal.matmul_plain_apply]
  rw [show constant (F := Ideal) S96x1536 .f32 0x00000000#32 (ix2 i j) = 0 from by rw [constant_apply]; simp [Ideal.ofBits, Ideal.ieee]]
  rw [zero_add]
  refine Finset.sum_congr rfl fun k _ => ?_
  rw [bStg_apply m ρ hB, ← aStg_apply m ρ hA]
  refine congrArg (fun v : EReal => v * _) ?_
  show aStg m ρ c ((aRect c r).emb (ix2 i k)) = _
  refine congrArg (aStg m ρ c) ?_
  funext a
  apply Fin.ext
  fin_cases a
  · show k0_off1 c (BitVec.ofNat 32 (96 * r.val)) 0 + 1 * i.val = 768 * (c.val % 2) + 96 * r.val + i.val
    rw [k0_off1_eq]
    show 768 * (c.val % 2) + 96 * r.val + 1 * i.val = _
    omega
  · show k0_off1 c (BitVec.ofNat 32 (96 * r.val)) 1 + 1 * k.val = k.val
    rw [k0_off1_eq]
    show 0 + 1 * k.val = k.val
    omega

/-- A sum over all positions is the sums over the two halves. -/
theorem sum_halves (f : Fin 1536 → EReal) (h : Fin 2) :
    (∑ k : Fin 768, f (pos h k)) + (∑ k : Fin 768, f (pos (1 - h) k)) = ∑ k : Fin 1536, f k := by
  have h0 : ∑ k : Fin 1536, f k = (∑ k : Fin 768, f (pos 0 k)) + (∑ k : Fin 768, f (pos 1 k)) := by
    rw [show (∑ k : Fin 1536, f k) = ∑ k : Fin (768 + 768), f k from rfl, Fin.sum_univ_add]
    refine congrArg₂ _ (Finset.sum_congr rfl fun k _ => congrArg f (Fin.ext ?_)) (Finset.sum_congr rfl fun k _ => congrArg f (Fin.ext ?_))
    · show k.val = 768 * 0 + k.val; omega
    · show 768 + k.val = 768 * 1 + k.val; omega
  rw [h0]
  fin_cases h
  · rfl
  · exact add_comm _ _

/-- Entry `(i, j)` of the product of the whole arrays. -/
def entry (A B : Square) (i j : Fin 1536) : EReal := ∑ k : Fin 1536, (A (ix2 i k) * B (ix2 k j) : EReal)

/-- The sum of a chunk is its rows of the whole product. -/
theorem summed_apply {A B : Square} (hA : HoldsA m A) (hB : HoldsB m B) (c : Dev nD) (r : Fin 8) (i : Fin 96) (j : Fin 1536) :
    summed m ρ c r (ix2 i j) = entry A B (row c r i) j := by
  show (prod m ρ c r (ix2 i j) : EReal) + (prod m ρ (xp c) r (ix2 i j) : EReal) = _
  rw [prod_apply m ρ hA hB, prod_apply m ρ hA hB, row_xp, half_xp]
  exact sum_halves (fun k => A (ix2 (row c r i) k) * B (ix2 k j)) (half c)

/-- The same at any index. -/
theorem summed_at {A B : Square} (hA : HoldsA m A) (hB : HoldsB m B) (c : Dev nD) (r : Fin 8) (x : S96x1536.Idx) :
    summed m ρ c r x = entry A B (row c r (x 0)) (x 1) := by
  rw [eq_ix2 x]
  exact summed_apply m ρ hA hB c r (x 0) (x 1)

/-- The product of the whole arrays. -/
def product (A B : Square) : Square := fun x => entry A B (x 0) (x 1)

/-- Every device's result is the product of the whole arrays. -/
theorem product_isResult {A B : Square} (hA : HoldsA m A) (hB : HoldsB m B) (c : Dev nD) : IsResult m ρ c (product A B) := by
  intro t
  rcases t with r | r
  · funext (x : S96x1536.Idx)
    show product A B ((rows c (.inl r)).emb x) = summed m ρ c r x
    rw [summed_at m ρ hA hB]
    refine congrArg₂ (entry A B) (Fin.ext ?_) (Fin.ext ?_)
    · show k0_off2 c (BitVec.ofNat 32 (96 * r.val)) 0 + 1 * (x 0).val = 768 * (c.val % 2) + 96 * r.val + (x 0).val
      rw [k0_off2_eq]
      show 768 * (c.val % 2) + 96 * r.val + 1 * (x 0).val = _
      omega
    · show k0_off2 c (BitVec.ofNat 32 (96 * r.val)) 1 + 1 * (x 1).val = (x 1).val
      rw [k0_off2_eq]
      show 0 + 1 * (x 1).val = (x 1).val
      omega
  · funext (x : S96x1536.Idx)
    show product A B ((rows c (.inr r)).emb x) = summed m ρ (yp c) r x
    rw [summed_at m ρ hA hB]
    refine congrArg₂ (entry A B) (Fin.ext ?_) (Fin.ext ?_)
    · show k0_off3 c (BitVec.ofNat 32 (96 * r.val)) 0 + 1 * (x 0).val = 768 * ((yp c).val % 2) + 96 * r.val + (x 0).val
      rw [k0_off3_eq, mod_yp]
      have hc : c.val % 2 < 2 := Nat.mod_lt _ (by decide)
      show 96 * r.val + 768 - 768 * (c.val % 2) + 1 * (x 0).val = _
      omega
    · show k0_off3 c (BitVec.ofNat 32 (96 * r.val)) 1 + 1 * (x 1).val = (x 1).val
      rw [k0_off3_eq]
      show 0 + 1 * (x 1).val = (x 1).val
      omega

end Cert.KernelIdeal.Mesh

end

end
-- ==== Proof.Reference.lean ====
module

public import proofs.«01_k».proof.Proof.Gen.ReferenceIdeal.Run
public import proofs.«01_k».proof.Proof.Value
public import Idealize.ShloMosaic.Lib.StackMember

/-!
# The value of the reference

The reference's product, with exact arithmetic, is the product of the whole arrays entry by entry.
-/

@[expose] public section

noncomputable section

namespace Cert.ReferenceIdeal.Mesh

open Cert.ReferenceIdeal Cert.ReferenceIdeal.Gen
open Idealize.ShloMosaic
open Idealize.ShloMosaic.ValueIdx
open Idealize.ShloMosaic.StackMember
open Cert.KernelIdeal.Mesh (Square product entry)

/-- The reference's contraction is the plain one, rows by columns. -/
theorem dims_plain : dot_S1536x1536_S1536x1536_S1536x1536_1_0_0_1_n_n = DotDims.plain 1536 1536 1536 := rfl

/-- The reference's product of two whole arrays is theirs entry by entry. -/
theorem dot_eq (A B : Square) :
    truncf (F := Ideal) .bf16 (Host.dotGeneral (F := Ideal) (φ₁ := .bf16) (φ₂ := .bf16) dot_S1536x1536_S1536x1536_S1536x1536_1_0_0_1_n_n none A B) bitsLt_bf16_f32 = product A B := by
  funext x
  rw [truncf_apply, dims_plain, eq_ix2 x]
  exact dotGeneral_plain_apply none A B (x 0) (x 1)

end Cert.ReferenceIdeal.Mesh

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The kernel on the machine's numbers runs and leaves its arguments and semaphores as they were. -/
theorem frame_kernel : Cert.quiescent_Kernel := fun m ρ _ =>
  (θ_run Cert.Kernel.defs _ _).mono (fun _ h => ⟨fun c => (h.1 c).2, h.2⟩) (Cert.Kernel.Mesh.run_kept (F := Bits) m ρ)

/-- So does the kernel on exact numbers. -/
theorem frame_ideal : Cert.quiescent_KernelIdeal := fun m ρ _ =>
  (θ_run Cert.KernelIdeal.defs _ _).mono (fun _ h => ⟨fun c => (h.1 c).2, h.2⟩) (Cert.KernelIdeal.Mesh.run_kept (F := Ideal) m ρ)

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On exact numbers, with each device holding its blocks of the reference's arrays, every device's result is the
reference's result. -/
theorem algebraic : Cert.algebraic_KernelIdeal_ReferenceIdeal := by
  intro m ρ m' ρ' _ held
  refine ⟨Cert.KernelIdeal.Mesh.product
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨Cert.KernelIdeal.Mesh.isResult_unique m ρ c (h.1 c).1
        (Cert.KernelIdeal.Mesh.product_isResult m ρ (fun d => (held d).1) (fun d => (held d).2) c), (h.1 c).2⟩)
      (Cert.KernelIdeal.Mesh.run_kept (F := Ideal) m ρ)
  · exact (θ_run Cert.ReferenceIdeal.defs _ _).mono
      (fun _ h => ⟨(h 0).1.trans (Cert.ReferenceIdeal.Mesh.dot_eq _ _), (h 0).2⟩)
      (Cert.ReferenceIdeal.Value.run (F := Ideal) m' ρ')

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
